-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x256x128 : Shape := ⟨3, ![24, 256, 128]⟩
abbrev S24x1x128 : Shape := ⟨3, ![24, 1, 128]⟩
abbrev S24x136x176x256 : Shape := ⟨4, ![24, 136, 176, 256]⟩
abbrev S24x136x176 : Shape := ⟨3, ![24, 136, 176]⟩
abbrev S24x136x176x100 : Shape := ⟨4, ![24, 136, 176, 100]⟩
abbrev S24x68x88x100 : Shape := ⟨4, ![24, 68, 88, 100]⟩
abbrev S1x256x128 : Shape := ⟨3, ![1, 256, 128]⟩
abbrev S1x1x128 : Shape := ⟨3, ![1, 1, 128]⟩
abbrev S1x136x176x256 : Shape := ⟨4, ![1, 136, 176, 256]⟩
abbrev S1x136x176 : Shape := ⟨3, ![1, 136, 176]⟩
abbrev S1x136x176x100 : Shape := ⟨4, ![1, 136, 176, 100]⟩
abbrev S1x68x88x100 : Shape := ⟨4, ![1, 68, 88, 100]⟩
abbrev S176x128 : Shape := ⟨2, ![176, 128]⟩
abbrev S256x128 : Shape := ⟨2, ![256, 128]⟩
abbrev S1x128 : Shape := ⟨2, ![1, 128]⟩
abbrev S1x8x176 : Shape := ⟨3, ![1, 8, 176]⟩
abbrev S8x176 : Shape := ⟨2, ![8, 176]⟩
abbrev S176x8 : Shape := ⟨2, ![176, 8]⟩
abbrev S1x1x176x256 : Shape := ⟨4, ![1, 1, 176, 256]⟩
abbrev S176x256 : Shape := ⟨2, ![176, 256]⟩
abbrev S176x1 : Shape := ⟨2, ![176, 1]⟩
abbrev S176x100 : Shape := ⟨2, ![176, 100]⟩
abbrev S1x1x176x100 : Shape := ⟨4, ![1, 1, 176, 100]⟩
abbrev S88x128 : Shape := ⟨2, ![88, 128]⟩
abbrev S88x100 : Shape := ⟨2, ![88, 100]⟩
abbrev S1x1x88x100 : Shape := ⟨4, ![1, 1, 88, 100]⟩

abbrev nBuf : Space → Nat
  | .hbm => 6
  | .vmem => 13
  | .smem => 0
  | _ => 0

abbrev bufTy : (tb : Table) → Fin (tcTables nBuf tb) → BufTy
  | .hbm, ⟨0, _⟩ => ⟨S24x256x128, .bf16⟩
  | .hbm, ⟨1, _⟩ => ⟨S24x1x128, .f32⟩
  | .hbm, ⟨2, _⟩ => ⟨S24x136x176x256, .i8⟩
  | .hbm, ⟨3, _⟩ => ⟨S24x136x176, .f32⟩
  | .hbm, ⟨4, _⟩ => ⟨S24x136x176x100, .bf16⟩
  | .hbm, ⟨5, _⟩ => ⟨S24x68x88x100, .f32⟩
  | .local _ .vmem, ⟨0, _⟩ => ⟨S1x256x128, .bf16⟩
  | .local _ .vmem, ⟨1, _⟩ => ⟨S1x256x128, .bf16⟩
  | .local _ .vmem, ⟨2, _⟩ => ⟨S1x1x128, .f32⟩
  | .local _ .vmem, ⟨3, _⟩ => ⟨S1x1x128, .f32⟩
  | .local _ .vmem, ⟨4, _⟩ => ⟨S1x136x176x256, .i8⟩
  | .local _ .vmem, ⟨5, _⟩ => ⟨S1x136x176x256, .i8⟩
  | .local _ .vmem, ⟨6, _⟩ => ⟨S1x136x176, .f32⟩
  | .local _ .vmem, ⟨7, _⟩ => ⟨S1x136x176, .f32⟩
  | .local _ .vmem, ⟨8, _⟩ => ⟨S1x136x176x100, .bf16⟩
  | .local _ .vmem, ⟨9, _⟩ => ⟨S1x136x176x100, .bf16⟩
  | .local _ .vmem, ⟨10, _⟩ => ⟨S1x68x88x100, .f32⟩
  | .local _ .vmem, ⟨11, _⟩ => ⟨S1x68x88x100, .f32⟩
  | .local _ .vmem, ⟨12, _⟩ => ⟨S176x128, .f32⟩
  | _, _ => ⟨S24x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c17_i32 : BitVec 32 := 17#32
  let v4 : BitVec 32 := Scalar.addi c0_i32 c17_i32
  let c1_i32 : BitVec 32 := 1#32
  ⟨c0_i32, v4, c1_i32⟩
def k0_off1 (k0_t1 : Fin k0_t1_loop.trips) : Fin 3 → Nat :=
  let c0_6 : Index := 0#32
  let c0_i32 : BitVec 32 := 0#32
  let c1_i32 : BitVec 32 := 1#32
  let arg8 : BitVec 32 := Scf.iv c0_i32 c1_i32 k0_t1
  let c8_i32 : BitVec 32 := 8#32
  let v5 : BitVec 32 := Scalar.muli arg8 c8_i32
  let v6 : Index := Scalar.indexCast v5
  let c0_7 : Index := 0#32
  ![0, v6.toNat, 0]
def k0_off2 (k0_t1 : Fin k0_t1_loop.trips) (c0_i32_8 : BitVec 32) (c0_i32_9 : BitVec 32) : Fin 4 → Nat :=
  let c0_10 : Index := 0#32
  let c0_i32 : BitVec 32 := 0#32
  let c1_i32 : BitVec 32 := 1#32
  let arg8 : BitVec 32 := Scf.iv c0_i32 c1_i32 k0_t1
  let c8_i32 : BitVec 32 := 8#32
  let v5 : BitVec 32 := Scalar.muli arg8 c8_i32
  let v10 : BitVec 32 := Scalar.addi v5 c0_i32_8
  let v11 : BitVec 32 := Scalar.addi v10 c0_i32_9
  let v12 : Index := Scalar.indexCast v11
  let c0_11 : Index := 0#32
  let c0_12 : Index := 0#32
  ![0, v12.toNat, 0, 0]
def k0_off3 (k0_t1 : Fin k0_t1_loop.trips) (c0_i32_13 : BitVec 32) (c0_i32_14 : BitVec 32) : Fin 4 → Nat :=
  let c0_15 : Index := 0#32
  let c0_i32 : BitVec 32 := 0#32
  let c1_i32 : BitVec 32 := 1#32
  let arg8 : BitVec 32 := Scf.iv c0_i32 c1_i32 k0_t1
  let c8_i32 : BitVec 32 := 8#32
  let v5 : BitVec 32 := Scalar.muli arg8 c8_i32
  let v24 : BitVec 32 := Scalar.addi v5 c0_i32_13
  let v25 : BitVec 32 := Scalar.addi v24 c0_i32_14
  let v26 : Index := Scalar.indexCast v25
  let c0_16 : Index := 0#32
  let c0_17 : Index := 0#32
  ![0, v26.toNat, 0, 0]
def k0_off4 (k0_t1 : Fin k0_t1_loop.trips) (c0_i32_44 : BitVec 32) : Fin 4 → Nat :=
  let c0_45 : Index := 0#32
  let c0_i32 : BitVec 32 := 0#32
  let c1_i32 : BitVec 32 := 1#32
  let arg8 : BitVec 32 := Scf.iv c0_i32 c1_i32 k0_t1
  let c8_i32 : BitVec 32 := 8#32
  let v5 : BitVec 32 := Scalar.muli arg8 c8_i32
  let c0_i32_38 : BitVec 32 := 0#32
  let v67 : BitVec 1 := Scalar.cmpi .sgt v5 c0_i32_38
  let v68 : BitVec 32 := Scalar.extui v67
  let c0_i32_39 : BitVec 32 := 0#32
  let v69 : BitVec 1 := Scalar.cmpi .slt v5 c0_i32_39
  let v70 : BitVec 32 := Scalar.extui v69
  let v71 : BitVec 32 := Scalar.subi v68 v70
  let c2_i32 : BitVec 32 := 2#32
  let c0_i32_40 : BitVec 32 := 0#32
  let v72 : BitVec 1 := Scalar.cmpi .sgt c2_i32 c0_i32_40
  let v73 : BitVec 32 := Scalar.extui v72
  let c0_i32_41 : BitVec 32 := 0#32
  let v74 : BitVec 1 := Scalar.cmpi .slt c2_i32 c0_i32_41
  let v75 : BitVec 32 := Scalar.extui v74
  let v76 : BitVec 32 := Scalar.subi v73 v75
  let v77 : BitVec 1 := Scalar.cmpi .ne v71 v76
  let v78 : BitVec 32 := Scalar.remsi v5 c2_i32
  let c0_i32_42 : BitVec 32 := 0#32
  let v79 : BitVec 1 := Scalar.cmpi .ne v78 c0_i32_42
  let v80 : BitVec 1 := Scalar.andi v77 v79
  let v66 : BitVec 32 := Scalar.divsi v5 c2_i32
  let c1_i32_43 : BitVec 32 := 1#32
  let v81 : BitVec 32 := Scalar.subi v66 c1_i32_43
  let v82 : BitVec 32 := Scalar.select v80 v81 v66
  let v83 : BitVec 32 := Scalar.addi v82 c0_i32_44
  let v84 : Index := Scalar.indexCast v83
  let c0_46 : Index := 0#32
  let c0_47 : Index := 0#32
  ![0, v84.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x136x176x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x136x176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x136x176x100 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x68x88x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S24x256x128 : Shape := ⟨3, ![24, 256, 128]⟩
abbrev S24x1x128 : Shape := ⟨3, ![24, 1, 128]⟩
abbrev S24x136x176x256 : Shape := ⟨4, ![24, 136, 176, 256]⟩
abbrev S24x136x176 : Shape := ⟨3, ![24, 136, 176]⟩
abbrev S24x256x100 : Shape := ⟨3, ![24, 256, 100]⟩
abbrev S24x1x100 : Shape := ⟨3, ![24, 1, 100]⟩
abbrev S24x100 : Shape := ⟨2, ![24, 100]⟩
abbrev S24x136x176x100 : Shape := ⟨4, ![24, 136, 176, 100]⟩
abbrev S24x1x1x100 : Shape := ⟨4, ![24, 1, 1, 100]⟩
abbrev S24x136x176x1 : Shape := ⟨4, ![24, 136, 176, 1]⟩
abbrev S68 : Shape := ⟨1, ![68]⟩
abbrev S68x1 : Shape := ⟨2, ![68, 1]⟩
abbrev S_ : Shape := ⟨0, ![]⟩
abbrev S136 : Shape := ⟨1, ![136]⟩
abbrev S1x136 : Shape := ⟨2, ![1, 136]⟩
abbrev S68x136 : Shape := ⟨2, ![68, 136]⟩
abbrev S24x176x100x68 : Shape := ⟨4, ![24, 176, 100, 68]⟩
abbrev S24x68x176x100 : Shape := ⟨4, ![24, 68, 176, 100]⟩
abbrev S88 : Shape := ⟨1, ![88]⟩
abbrev S88x1 : Shape := ⟨2, ![88, 1]⟩
abbrev S176 : Shape := ⟨1, ![176]⟩
abbrev S1x176 : Shape := ⟨2, ![1, 176]⟩
abbrev S88x176 : Shape := ⟨2, ![88, 176]⟩
abbrev S24x68x100x88 : Shape := ⟨4, ![24, 68, 100, 88]⟩
abbrev S24x68x88x100 : Shape := ⟨4, ![24, 68, 88, 100]⟩

abbrev nBuf : Space → Nat
  | .hbm => 80
  | .vmem => 0
  | .smem => 0
  | _ => 0

abbrev bufTy : (tb : Table) → Fin (tcTables nBuf tb) → BufTy
  | .hbm, ⟨0, _⟩ => ⟨S24x256x128, .bf16⟩
  | .hbm, ⟨1, _⟩ => ⟨S24x1x128, .f32⟩
  | .hbm, ⟨2, _⟩ => ⟨S24x136x176x256, .i8⟩
  | .hbm, ⟨3, _⟩ => ⟨S24x136x176, .f32⟩
  | .hbm, ⟨4, _⟩ => ⟨S24x256x100, .bf16⟩
  | .hbm, ⟨5, _⟩ => ⟨S24x1x100, .f32⟩
  | .hbm, ⟨6, _⟩ => ⟨S24x100, .f32⟩
  | .hbm, ⟨7, _⟩ => ⟨S24x136x176x256, .i32⟩
  | .hbm, ⟨8, _⟩ => ⟨S24x136x176x256, .f32⟩
  | .hbm, ⟨9, _⟩ => ⟨S24x136x176x256, .bf16⟩
  | .hbm, ⟨10, _⟩ => ⟨S24x136x176x100, .f32⟩
  | .hbm, ⟨11, _⟩ => ⟨S24x1x1x100, .f32⟩
  | .hbm, ⟨12, _⟩ => ⟨S24x136x176x100, .f32⟩
  | .hbm, ⟨13, _⟩ => ⟨S24x136x176x100, .f32⟩
  | .hbm, ⟨14, _⟩ => ⟨S24x136x176x1, .f32⟩
  | .hbm, ⟨15, _⟩ => ⟨S24x136x176x100, .f32⟩
  | .hbm, ⟨16, _⟩ => ⟨S24x136x176x100, .f32⟩
  | .hbm, ⟨17, _⟩ => ⟨S68, .i32⟩
  | .hbm, ⟨18, _⟩ => ⟨S68x1, .i32⟩
  | .hbm, ⟨19, _⟩ => ⟨S_, .i32⟩
  | .hbm, ⟨20, _⟩ => ⟨S68x1, .i32⟩
  | .hbm, ⟨21, _⟩ => ⟨S68x1, .i32⟩
  | .hbm, ⟨22, _⟩ => ⟨S_, .i32⟩
  | .hbm, ⟨23, _⟩ => ⟨S68x1, .i32⟩
  | .hbm, ⟨24, _⟩ => ⟨S68x1, .i32⟩
  | .hbm, ⟨25, _⟩ => ⟨S_, .i32⟩
  | .hbm, ⟨26, _⟩ => ⟨S68x1, .i32⟩
  | .hbm, ⟨27, _⟩ => ⟨S68x1, .i32⟩
  | .hbm, ⟨28, _⟩ => ⟨S136, .i32⟩
  | .hbm, ⟨29, _⟩ => ⟨S1x136, .i32⟩
  | .hbm, ⟨30, _⟩ => ⟨S68x136, .i32⟩
  | .hbm, ⟨31, _⟩ => ⟨S68x136, .i32⟩
  | .hbm, ⟨32, _⟩ => ⟨S68x136, .i1⟩
  | .hbm, ⟨33, _⟩ => ⟨S_, .i32⟩
  | .hbm, ⟨34, _⟩ => ⟨S68x1, .i32⟩
  | .hbm, ⟨35, _⟩ => ⟨S68x1, .i32⟩
  | .hbm, ⟨36, _⟩ => ⟨S1x136, .i32⟩
  | .hbm, ⟨37, _⟩ => ⟨S68x136, .i32⟩
  | .hbm, ⟨38, _⟩ => ⟨S68x136, .i32⟩
  | .hbm, ⟨39, _⟩ => ⟨S68x136, .i1⟩
  | .hbm, ⟨40, _⟩ => ⟨S68x136, .i1⟩
  | .hbm, ⟨41, _⟩ => ⟨S_, .f32⟩
  | .hbm, ⟨42, _⟩ => ⟨S_, .f32⟩
  | .hbm, ⟨43, _⟩ => ⟨S68x136, .f32⟩
  | .hbm, ⟨44, _⟩ => ⟨S68x136, .f32⟩
  | .hbm, ⟨45, _⟩ => ⟨S68x136, .f32⟩
  | .hbm, ⟨46, _⟩ => ⟨S24x176x100x68, .f32⟩
  | .hbm, ⟨47, _⟩ => ⟨S24x68x176x100, .f32⟩
  | .hbm, ⟨48, _⟩ => ⟨S88, .i32⟩
  | .hbm, ⟨49, _⟩ => ⟨S88x1, .i32⟩
  | .hbm, ⟨50, _⟩ => ⟨S_, .i32⟩
  | .hbm, ⟨51, _⟩ => ⟨S88x1, .i32⟩
  | .hbm, ⟨52, _⟩ => ⟨S88x1, .i32⟩
  | .hbm, ⟨53, _⟩ => ⟨S_, .i32⟩
  | .hbm, ⟨54, _⟩ => ⟨S88x1, .i32⟩
  | .hbm, ⟨55, _⟩ => ⟨S88x1, .i32⟩
  | .hbm, ⟨56, _⟩ => ⟨S_, .i32⟩
  | .hbm, ⟨57, _⟩ => ⟨S88x1, .i32⟩
  | .hbm, ⟨58, _⟩ => ⟨S88x1, .i32⟩
  | .hbm, ⟨59, _⟩ => ⟨S176, .i32⟩
  | .hbm, ⟨60, _⟩ => ⟨S1x176, .i32⟩
  | .hbm, ⟨61, _⟩ => ⟨S88x176, .i32⟩
  | .hbm, ⟨62, _⟩ => ⟨S88x176, .i32⟩
  | .hbm, ⟨63, _⟩ => ⟨S88x176, .i1⟩
  | .hbm, ⟨64, _⟩ => ⟨S_, .i32⟩
  | .hbm, ⟨65, _⟩ => ⟨S88x1, .i32⟩
  | .hbm, ⟨66, _⟩ => ⟨S88x1, .i32⟩
  | .hbm, ⟨67, _⟩ => ⟨S1x176, .i32⟩
  | .hbm, ⟨68, _⟩ => ⟨S88x176, .i32⟩
  | .hbm, ⟨69, _⟩ => ⟨S88x176, .i32⟩
  | .hbm, ⟨70, _⟩ => ⟨S88x176, .i1⟩
  | .hbm, ⟨71, _⟩ => ⟨S88x176, .i1⟩
  | .hbm, ⟨72, _⟩ => ⟨S_, .f32⟩
  | .hbm, ⟨73, _⟩ => ⟨S_, .f32⟩
  | .hbm, ⟨74, _⟩ => ⟨S88x176, .f32⟩
  | .hbm, ⟨75, _⟩ => ⟨S88x176, .f32⟩
  | .hbm, ⟨76, _⟩ => ⟨S88x176, .f32⟩
  | .hbm, ⟨77, _⟩ => ⟨S24x68x100x88, .f32⟩
  | .hbm, ⟨78, _⟩ => ⟨S24x68x88x100, .f32⟩
  | .hbm, ⟨79, _⟩ => ⟨S24x136x176x100, .bf16⟩
  | _, _ => ⟨S24x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.KernelIdeal.Rows.lean ====
/-
  WHAT ONE BLOCK OF THE MASK HEAD HOLDS. The kernel computes, for one batch entry, the mask logits of 136 rows of 176
  pixels for 128 query lanes, and stores the first 100 lanes twice: every row rounded to bf16 (`maskBlk`), and every pair
  of rows averaged over 2 × 2 pixels (`downBlk`). Here are those two blocks as functions of the four staged blocks (the
  transposed embedding codes, their scales, the feature codes, the feature scales), and the lemmas by which a store of one
  trip of the row loop is a piece of them.
-/
module

public import proofs.«01_k».proof.Proof.Gen.KernelIdeal.Loops
public import Idealize.ShloMosaic.Lib.Tactic
public import Idealize.ShloMosaic.Lib.Pipeline.Kit
public import Idealize.ShloMosaic.Lib.Pointwise
public import Idealize.ShloMosaic.Lib.WritesUnit

@[expose] public section

set_option maxRecDepth 16384

noncomputable section

namespace Cert.KernelIdeal.Mask

open Cert.KernelIdeal Cert.KernelIdeal.Gen
open Idealize.ShloMosaic Idealize.ShloMosaic.TcCoe Idealize.SL.Sem

variable {F : FTy → Type} [FloatOps F]

/-! ## The blocks -/

/-- The codes of row `h` of the staged feature block. -/
def codesRow (x3 : Vec F S1x136x176x256 .i8) (h : Fin 136) : Vec F S1x1x176x256 .i8 :=
  fun y => x3 (ix4 (0 : Fin 1) h (y 2) (y 3))

/-- The scales of the 176 pixels of row `h`, as a column. -/
def scaleCol (x4 : Vec F S1x136x176 .f32) (h : Fin 136) : FVec F S176x1 .f32 :=
  fun y => x4 (ix3 (0 : Fin 1) h (y 0))

/-- The logits of one row from its codes and its column of scales: the exact dot products with the embedding codes, times
the embedding scales along the lanes, times the pixels' scales. -/
def rowOf (v1 : FVec F S256x128 .bf16) (v3 : FVec F S1x128 .f32) (v13 : Vec F S1x1x176x256 .i8) (col : FVec F S176x1 .f32) :
    FVec F S176x128 .f32 :=
  mulf (mulf (matmul dot_S176x256_S256x128_S176x128_1_0_0_1_n_n none
      (sitofp .bf16 (shapeCast S176x256 v13 shapeCasts_S1x1x176x256_S176x256 : IVec S176x256 8)) v1
      (constant S176x128 .f32 0x00000000#32))
    (broadcastTo S176x128 v3 broadcasts_S1x128_S176x128)) (broadcastTo S176x128 col broadcasts_S176x1_S176x128)

/-- The logits of row `h` of the block. -/
def maskRow (v0 : Vec F S1x256x128 .bf16) (v2 : Vec F S1x1x128 .f32) (x3 : Vec F S1x136x176x256 .i8)
    (x4 : Vec F S1x136x176 .f32) (h : Fin 136) : FVec F S176x128 .f32 :=
  rowOf (k0_pay1 v0) (k0_pay2 v2) (codesRow x3 h) (scaleCol x4 h)

/-- A row of logits as it is stored: rounded to bf16, its first 100 lanes. -/
def rowOut (M : FVec F S176x128 .f32) : FVec F S1x1x176x100 .bf16 := k0_pay9 (truncf .bf16 M bitsLt_bf16_f32)

/-- The block of mask logits. -/
def maskBlk (v0 : Vec F S1x256x128 .bf16) (v2 : Vec F S1x1x128 .f32) (x3 : Vec F S1x136x176x256 .i8)
    (x4 : Vec F S1x136x176 .f32) : Vec F S1x136x176x100 .bf16 :=
  fun y => rowOut (maskRow v0 v2 x3 x4 (y 1)) (ix4 (0 : Fin 1) (0 : Fin 1) (y 2) (y 3))

/-- The even pixels of a row. -/
def evens (P : FVec F S176x128 .f32) : Vec F S88x128 .f32 :=
  fun y => P (ix2 (⟨2 * (y 0).val, by have : (y 0).val < 88 := (y 0).isLt; omega⟩ : Fin 176) (y 1))

/-- The odd pixels of a row. -/
def odds (P : FVec F S176x128 .f32) : Vec F S88x128 .f32 :=
  fun y => P (ix2 (⟨1 + 2 * (y 0).val, by have : (y 0).val < 88 := (y 0).isLt; omega⟩ : Fin 176) (y 1))

/-- One row of down-sampled logits, as it is stored, from the two rows that it averages. -/
def downOut (A B : FVec F S176x128 .f32) : FVec F S1x1x88x100 .f32 :=
  k0_pay12 (k0_pay11 (evens (k0_pay10 A B)) (odds (k0_pay10 A B)))

/-- The block of down-sampled logits: row `i` from rows `2 i` and `2 i + 1`. -/
def downBlk (v0 : Vec F S1x256x128 .bf16) (v2 : Vec F S1x1x128 .f32) (x3 : Vec F S1x136x176x256 .i8)
    (x4 : Vec F S1x136x176 .f32) : Vec F S1x68x88x100 .f32 :=
  fun y => downOut
    (maskRow v0 v2 x3 x4 (⟨2 * (y 1).val, by have : (y 1).val < 68 := (y 1).isLt; omega⟩ : Fin 136))
    (maskRow v0 v2 x3 x4 (⟨2 * (y 1).val + 1, by have : (y 1).val < 68 := (y 1).isLt; omega⟩ : Fin 136))
    (ix4 (0 : Fin 1) (0 : Fin 1) (y 2) (y 3))

/-! ## A trip's loads -/

/-- The codes loaded for row `8 k + r`. -/
theorem load_codes (arg3 : Memref sig .tc .vmem S1x136x176x256 .i8) (X3 : BufTy.Contents (Elt F) arg3.view.ty)
    {off : Fin 4 → ℕ} (inb : ∀ a, off a + S1x1x176x256.size a ≤ S1x136x176x256.size a) (h : Fin 136)
    (hoff : off = ![0, h.val, 0, 0]) :
    arg3.view.readAt (Elt F) (Rect.unit (s := S1x136x176x256) off S1x1x176x256.size inb).toLoadRect X3
      = codesRow (F := F) (arg3.view.read (Elt F) X3) h := by
  subst hoff
  funext y
  rw [View.readAt_apply]
  unfold codesRow
  congr 1
  idx_vars y
  idx_ext

/-- The scales loaded for the eight rows of a trip, transposed and cut at row `r`. -/
theorem load_scales (arg4 : Memref sig .tc .vmem S1x136x176 .f32) (X4 : BufTy.Contents (Elt F) arg4.view.ty)
    {off : Fin 3 → ℕ} (inb : ∀ a, off a + S1x8x176.size a ≤ S1x136x176.size a) (o r : ℕ) (hr : r < 8) (h : Fin 136)
    (hh : h.val = o + r) (hoff : off = ![0, o, 0]) (hs : S176x8.Slices ![0, r] S176x1) :
    extractStridedSlice S176x1 ![0, r] (k0_pay4 (F := F)
        (arg4.view.readAt (Elt F) (Rect.unit (s := S1x136x176) off S1x8x176.size inb).toLoadRect X4)) hs
      = scaleCol (F := F) (arg4.view.read (Elt F) X4) h := by
  subst hoff
  funext y
  idx_vars y
  unfold scaleCol
  pointwise [k0_pay4]
  rw [View.readAt_apply]
  congr 1
  idx_ext

/-- A row computed in a trip from its loads is the block's row. -/
theorem row_eq (arg3 : Memref sig .tc .vmem S1x136x176x256 .i8) (X3 : BufTy.Contents (Elt F) arg3.view.ty)
    (arg4 : Memref sig .tc .vmem S1x136x176 .f32) (X4 : BufTy.Contents (Elt F) arg4.view.ty)
    (v0 : Vec F S1x256x128 .bf16) (v2 : Vec F S1x1x128 .f32)
    {off : Fin 3 → ℕ} (inb : ∀ a, off a + S1x8x176.size a ≤ S1x136x176.size a)
    {off' : Fin 4 → ℕ} (inb' : ∀ a, off' a + S1x1x176x256.size a ≤ S1x136x176x256.size a)
    (o r : ℕ) (hr : r < 8) (h : Fin 136) (hh : h.val = o + r) (hoff : off = ![0, o, 0]) (hoff' : off' = ![0, o + r, 0, 0])
    (hs : S176x8.Slices ![0, r] S176x1) :
    rowOf (k0_pay1 v0) (k0_pay2 v2)
        (arg3.view.readAt (Elt F) (Rect.unit (s := S1x136x176x256) off' S1x1x176x256.size inb').toLoadRect X3)
        (extractStridedSlice S176x1 ![0, r] (k0_pay4 (F := F)
          (arg4.view.readAt (Elt F) (Rect.unit (s := S1x136x176) off S1x8x176.size inb).toLoadRect X4)) hs)
      = maskRow v0 v2 (arg3.view.read (Elt F) X3) (arg4.view.read (Elt F) X4) h := by
  rw [load_codes arg3 X3 inb' h (by rw [hoff', hh]), load_scales arg4 X4 inb o r hr h hh hoff hs]
  rfl

/-! ## A trip's stores -/

/-- A row stored at row `h` is that row of the block of mask logits. -/
theorem mask_piece (v0 : Vec F S1x256x128 .bf16) (v2 : Vec F S1x1x128 .f32) (x3 : Vec F S1x136x176x256 .i8)
    (x4 : Vec F S1x136x176 .f32) {off : Fin 4 → ℕ} (inb : ∀ a, off a + S1x1x176x100.size a ≤ S1x136x176x100.size a)
    (h : Fin 136) (hoff : off = ![0, h.val, 0, 0]) (M : FVec F S176x128 .f32) (hM : M = maskRow v0 v2 x3 x4 h)
    (x : S1x1x176x100.Idx) :
    rowOut M x = maskBlk v0 v2 x3 x4 ((Rect.unit (s := S1x136x176x100) off S1x1x176x100.size inb).emb x) := by
  subst hoff hM
  unfold maskBlk
  have h1 : (Rect.unit (s := S1x136x176x100) ![0, h.val, 0, 0] S1x1x176x100.size inb).emb x 1 = h := by
    idx_vars x; apply Fin.ext; simp
  rw [h1]
  congr 1
  idx_vars x
  idx_ext

/-- A down-sampled row stored at row `i` is that row of the block of down-sampled logits. -/
theorem down_piece (v0 : Vec F S1x256x128 .bf16) (v2 : Vec F S1x1x128 .f32) (x3 : Vec F S1x136x176x256 .i8)
    (x4 : Vec F S1x136x176 .f32) {off : Fin 4 → ℕ} (inb : ∀ a, off a + S1x1x88x100.size a ≤ S1x68x88x100.size a)
    (i : Fin 68) (hoff : off = ![0, i.val, 0, 0]) (a b : Fin 136) (ha : a.val = 2 * i.val) (hb : b.val = 2 * i.val + 1)
    (A B : FVec F S176x128 .f32) (hA : A = maskRow v0 v2 x3 x4 a) (hB : B = maskRow v0 v2 x3 x4 b) (x : S1x1x88x100.Idx) :
    downOut A B x = downBlk v0 v2 x3 x4 ((Rect.unit (s := S1x68x88x100) off S1x1x88x100.size inb).emb x) := by
  subst hoff hA hB
  unfold downBlk
  have h1 : (Rect.unit (s := S1x68x88x100) ![0, i.val, 0, 0] S1x1x88x100.size inb).emb x 1 = i := by
    idx_vars x; apply Fin.ext; simp
  have h2 := congrArg Fin.val h1
  refine (congrArg₂ (fun A B => downOut A B x)
    (congrArg (maskRow v0 v2 x3 x4) (Fin.ext (ha.trans (congrArg (2 * ·) h2.symm))))
    (congrArg (maskRow v0 v2 x3 x4) (Fin.ext (hb.trans (congrArg (2 * · + 1) h2.symm))))).trans (congrArg _ ?_)
  idx_vars x
  idx_ext

/-- The even pixels, loaded back from a row stored whole. -/
theorem load_evens (v : View sig .tc .vmem S176x128 .f32) (P : FVec F S176x128 .f32)
    (L : List (View.Piece (Elt F) S176x128 .f32)) :
    v.readCov (Val := Elt F) ((⟨Rect.unit (s := S176x128) ![0, 0] S176x128.size inb_S176x128_S176x128_0_0, P⟩ : View.Piece (Elt F) S176x128 .f32) :: L)
      (⟨![0, 0], S88x128.size, ![2, 1], inb_S176x128_S88x128_0_0_s_2_1⟩ : LoadRect S176x128) = evens P := by
  rw [View.readCov_eq_canon', View.canon_cons_unit_zero (by decide)]
  funext y
  unfold evens
  congr 1
  idx_vars y
  idx_ext

/-- The odd pixels, loaded back from a row stored whole. -/
theorem load_odds (v : View sig .tc .vmem S176x128 .f32) (P : FVec F S176x128 .f32)
    (L : List (View.Piece (Elt F) S176x128 .f32)) :
    v.readCov (Val := Elt F) ((⟨Rect.unit (s := S176x128) ![0, 0] S176x128.size inb_S176x128_S176x128_0_0, P⟩ : View.Piece (Elt F) S176x128 .f32) :: L)
      (⟨![1, 0], S88x128.size, ![2, 1], inb_S176x128_S88x128_1_0_s_2_1⟩ : LoadRect S176x128) = odds P := by
  rw [View.readCov_eq_canon', View.canon_cons_unit_zero (by decide)]
  funext y
  unfold odds
  congr 1
  idx_vars y
  idx_ext

end Cert.KernelIdeal.Mask
end
-- ==== Proof.KernelIdeal.Logits.lean ====
/-
  WHAT THE BLOCKS HOLD OVER THE REALS. The logit of a pixel for a query lane is the dot product of the pixel's codes with
  the lane's codes, times the two scales; a block of mask logits holds these, a block of down-sampled logits their averages
  over 2 × 2 pixels.
-/
module

public import proofs.«01_k».proof.Proof.KernelIdeal.Rows
public import Idealize.ShloMosaic.Lib.IdealHost
public import Idealize.ShloMosaic.Lib.Pointwise

@[expose] public section

set_option maxRecDepth 16384

noncomputable section

namespace Cert.KernelIdeal.Mask

open Cert.KernelIdeal Cert.KernelIdeal.Gen
open Idealize.ShloMosaic Idealize.ShloMosaic.TcCoe Idealize.SL.Sem

/-- One logit from a pixel's codes, a lane's codes and their scales. -/
def logit (codes : Fin 256 → BitVec 8) (emb : Fin 256 → EReal) (es fs : EReal) : EReal :=
  (∑ k : Fin 256, (((codes k).toInt : ℝ) : EReal) * emb k) * es * fs

/-- One half. -/
def half : EReal := Ideal.ofBits .f32 0x3F000000#32

/-- The average of two values, as the sum of their halves. -/
def avg (a b : EReal) : EReal := half * a + half * b

/-- A computed row holds the row's logits. -/
theorem maskRow_apply (v0 : Vec Ideal S1x256x128 .bf16) (v2 : Vec Ideal S1x1x128 .f32) (x3 : Vec Ideal S1x136x176x256 .i8)
    (x4 : Vec Ideal S1x136x176 .f32) (h : Fin 136) (w : Fin 176) (q : Fin 128) :
    maskRow v0 v2 x3 x4 h (ix2 w q)
      = logit (fun k => x3 (ix4 0 h w k)) (fun k => v0 (ix3 0 k q)) (v2 (ix3 0 0 q)) (x4 (ix3 0 h w)) := by
  unfold maskRow rowOf logit codesRow scaleCol
  pointwise [k0_pay1, k0_pay2]
  rfl

/-- A stored row is the row's first 100 lanes. -/
theorem rowOut_apply (M : FVec Ideal S176x128 .f32) (w : Fin 176) (q : Fin 100) :
    rowOut M (ix4 0 0 w q) = M (ix2 w ⟨q.val, by omega⟩) := by
  unfold rowOut
  pointwise [k0_pay9]
  try idx_ext

/-- A stored down-sampled row averages two rows, then two neighbouring pixels. -/
theorem downOut_apply (A B : FVec Ideal S176x128 .f32) (j : Fin 88) (q : Fin 100) :
    downOut A B (ix4 0 0 j q)
      = avg (avg (A (ix2 ⟨2 * j.val, by omega⟩ ⟨q.val, by omega⟩)) (B (ix2 ⟨2 * j.val, by omega⟩ ⟨q.val, by omega⟩)))
          (avg (A (ix2 ⟨2 * j.val + 1, by omega⟩ ⟨q.val, by omega⟩)) (B (ix2 ⟨2 * j.val + 1, by omega⟩ ⟨q.val, by omega⟩))) := by
  unfold downOut evens odds avg half
  pointwise [k0_pay12, k0_pay11, k0_pay10]
  simp only [Nat.add_comm 1]

/-! ## The two results of the whole call -/

/-- The logit of pixel `(h, w)` for lane `q` of batch entry `b`. -/
def logitAt (a0 : Vec Ideal S24x256x128 .bf16) (a1 : Vec Ideal S24x1x128 .f32) (a2 : Vec Ideal S24x136x176x256 .i8)
    (a3 : Vec Ideal S24x136x176 .f32) (b : Fin 24) (h : Fin 136) (w : Fin 176) (q : Fin 100) : EReal :=
  logit (fun k => a2 (ix4 b h w k)) (fun k => a0 (ix3 b k ⟨q.val, by omega⟩)) (a1 (ix3 b 0 ⟨q.val, by omega⟩)) (a3 (ix3 b h w))

/-- The array of mask logits. -/
def maskArr (a0 : Vec Ideal S24x256x128 .bf16) (a1 : Vec Ideal S24x1x128 .f32) (a2 : Vec Ideal S24x136x176x256 .i8)
    (a3 : Vec Ideal S24x136x176 .f32) : Vec Ideal S24x136x176x100 .bf16 :=
  fun i => logitAt a0 a1 a2 a3 (i 0) (i 1) (i 2) (i 3)

/-- The array of down-sampled logits. -/
def downArr (a0 : Vec Ideal S24x256x128 .bf16) (a1 : Vec Ideal S24x1x128 .f32) (a2 : Vec Ideal S24x136x176x256 .i8)
    (a3 : Vec Ideal S24x136x176 .f32) : Vec Ideal S24x68x88x100 .f32 :=
  fun i =>
    let L := fun (h : Fin 136) (w : Fin 176) => logitAt a0 a1 a2 a3 (i 0) h w (i 3)
    let h₀ : Fin 136 := ⟨2 * (i 1).val, by have : (i 1).val < 68 := (i 1).isLt; omega⟩
    let h₁ : Fin 136 := ⟨2 * (i 1).val + 1, by have : (i 1).val < 68 := (i 1).isLt; omega⟩
    let w₀ : Fin 176 := ⟨2 * (i 2).val, by have : (i 2).val < 88 := (i 2).isLt; omega⟩
    let w₁ : Fin 176 := ⟨2 * (i 2).val + 1, by have : (i 2).val < 88 := (i 2).isLt; omega⟩
    avg (avg (L h₀ w₀) (L h₁ w₀)) (avg (L h₀ w₁) (L h₁ w₁))

end Cert.KernelIdeal.Mask
end
-- ==== Proof.KernelIdeal.Trip.lean ====
/-
  ONE TRIP OF THE ROW LOOP, AND THE LOOP. Trip `k` stores the mask logits of rows `8 k … 8 k + 7` and the down-sampled rows
  `4 k … 4 k + 3`. Before trip `k` the two output blocks hold rows below `8 k` and below `4 k` of `maskBlk` and `downBlk`
  (`MaskTo`, `DownTo`); the scratch row holds anything.
-/
module

public import proofs.«01_k».proof.Proof.KernelIdeal.Rows

@[expose] public section

set_option maxRecDepth 16384

noncomputable section

namespace Cert.KernelIdeal.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows below `n` of a mask block are `G`'s. -/
def MaskTo (arg5 : Memref sig .tc .vmem S1x136x176x100 .bf16) (G : Vec F S1x136x176x100 .bf16) (n : ℕ)
    (g : BufTy.Contents (Elt F) arg5.view.ty) : Prop :=
  ∀ y : S1x136x176x100.Idx, (y 1).val < n → arg5.view.read (Elt F) g y = G y

/-- The rows below `n` of a down-sampled block are `G`'s. -/
def DownTo (arg6 : Memref sig .tc .vmem S1x68x88x100 .f32) (G : Vec F S1x68x88x100 .f32) (n : ℕ)
    (g : BufTy.Contents (Elt F) arg6.view.ty) : Prop :=
  ∀ y : S1x68x88x100.Idx, (y 1).val < n → arg6.view.read (Elt F) g y = G y

/-- The loop's invariant before trip `k`. -/
abbrev inv (c : Dev nD) (arg3 : Memref sig .tc .vmem S1x136x176x256 .i8) (arg4 : Memref sig .tc .vmem S1x136x176 .f32)
    (arg5 : Memref sig .tc .vmem S1x136x176x100 .bf16) (arg6 : Memref sig .tc .vmem S1x68x88x100 .f32)
    (arg7 : Memref sig .tc .vmem S176x128 .f32) (v0 : Vec F S1x256x128 .bf16) (v2 : Vec F S1x1x128 .f32)
    (X3 : BufTy.Contents (Elt F) arg3.view.ty) (X4 : BufTy.Contents (Elt F) arg4.view.ty) (k : ℕ) : sProp 𝕄 :=
  iprop((arg3.view.loc (c : Thread nD τ) ↦[arg3.view.set]{fullShare} X3)
    ∗ (arg4.view.loc (c : Thread nD τ) ↦[arg4.view.set]{fullShare} X4)
    ∗ (∃ g5, (arg5.view.loc (c : Thread nD τ) ↦[arg5.view.set]{fullShare} g5)
        ∗ ⌜MaskTo arg5 (maskBlk v0 v2 (arg3.view.read (Elt F) X3) (arg4.view.read (Elt F) X4)) (8 * k) g5⌝)
    ∗ (∃ g6, (arg6.view.loc (c : Thread nD τ) ↦[arg6.view.set]{fullShare} g6)
        ∗ ⌜DownTo arg6 (downBlk v0 v2 (arg3.view.read (Elt F) X3) (arg4.view.read (Elt F) X4)) (4 * k) g6⌝)
    ∗ (∃ g7, arg7.view.loc (c : Thread nD τ) ↦[arg7.view.set]{fullShare} g7))

/-- Stores that are rows of `G` and cover the rows from `n` to below `n'` take the filled part on. -/
theorem MaskTo.writes {arg5 : Memref sig .tc .vmem S1x136x176x100 .bf16} {G : Vec F S1x136x176x100 .bf16} {n n' : ℕ}
    {g : BufTy.Contents (Elt F) arg5.view.ty} (h : MaskTo arg5 G n g) (L : List (View.Piece (Elt F) S1x136x176x100 .bf16))
    (hL : ∀ p ∈ L, ∀ x : p.1.shape.Idx, p.2 x = G (p.1.emb x))
    (hc : ∀ y : S1x136x176x100.Idx, n ≤ (y 1).val → (y 1).val < n' → ∃ p ∈ L, y ∈ p.1.set) :
    MaskTo arg5 G n' (arg5.view.writes (Elt F) g L) := fun y hy => by
  by_cases hp : ∃ p ∈ L, y ∈ p.1.set
  · exact View.read_writes_apply_of_pieces _ _ G L hL y hp
  · rw [View.read_writes_apply_of_forall_not_mem _ _ y L fun p hm hy' => hp ⟨p, hm, hy'⟩]
    exact h y (by by_contra hn; exact hp (hc y (by omega) hy))

/-- The same for the down-sampled block. -/
theorem DownTo.writes {arg6 : Memref sig .tc .vmem S1x68x88x100 .f32} {G : Vec F S1x68x88x100 .f32} {n n' : ℕ}
    {g : BufTy.Contents (Elt F) arg6.view.ty} (h : DownTo arg6 G n g) (L : List (View.Piece (Elt F) S1x68x88x100 .f32))
    (hL : ∀ p ∈ L, ∀ x : p.1.shape.Idx, p.2 x = G (p.1.emb x))
    (hc : ∀ y : S1x68x88x100.Idx, n ≤ (y 1).val → (y 1).val < n' → ∃ p ∈ L, y ∈ p.1.set) :
    DownTo arg6 G n' (arg6.view.writes (Elt F) g L) := fun y hy => by
  by_cases hp : ∃ p ∈ L, y ∈ p.1.set
  · exact View.read_writes_apply_of_pieces _ _ G L hL y hp
  · rw [View.read_writes_apply_of_forall_not_mem _ _ y L fun p hm hy' => hp ⟨p, hm, hy'⟩]
    exact h y (by by_contra hn; exact hp (hc y (by omega) hy))

/-- A place of the mask block lies in the store of its row. -/
theorem mem_mask {off : Fin 4 → ℕ} (inb : ∀ a, off a + S1x1x176x100.size a ≤ S1x136x176x100.size a) (n : ℕ)
    (hoff : off = ![0, n, 0, 0]) (y : S1x136x176x100.Idx) (hy : (y 1).val = n) :
    y ∈ (Rect.unit (s := S1x136x176x100) off S1x1x176x100.size inb).set := by
  subst hoff
  rw [Rect.mem_set_unit]
  idx_vars y
  intro a
  fin_cases a <;> simp at hy ⊢ <;> omega

/-- A place of the down-sampled block lies in the store of its row. -/
theorem mem_down {off : Fin 4 → ℕ} (inb : ∀ a, off a + S1x1x88x100.size a ≤ S1x68x88x100.size a) (n : ℕ)
    (hoff : off = ![0, n, 0, 0]) (y : S1x68x88x100.Idx) (hy : (y 1).val = n) :
    y ∈ (Rect.unit (s := S1x68x88x100) off S1x1x88x100.size inb).set := by
  subst hoff
  rw [Rect.mem_set_unit]
  idx_vars y
  intro a
  fin_cases a <;> simp at hy ⊢ <;> omega

/-! ### The offsets of a trip -/

theorem off1_eq (k : Fin k0_t1_loop.trips) : k0_off1 k = ![0, 8 * k.val, 0] := by revert k; decide +kernel

theorem off2_eq (k : Fin k0_t1_loop.trips) : ∀ (i : Fin 4) (j : Fin 2),
    k0_off2 k (BitVec.ofNat 32 (2 * i.val)) (BitVec.ofNat 32 j.val) = ![0, 8 * k.val + (2 * i.val + j.val), 0, 0] := by
  revert k; decide +kernel

theorem off3_eq (k : Fin k0_t1_loop.trips) : ∀ (i : Fin 4) (j : Fin 2),
    k0_off3 k (BitVec.ofNat 32 (2 * i.val)) (BitVec.ofNat 32 j.val) = ![0, 8 * k.val + (2 * i.val + j.val), 0, 0] := by
  revert k; decide +kernel

theorem off4_eq (k : Fin k0_t1_loop.trips) : ∀ i : Fin 4,
    k0_off4 k (BitVec.ofNat 32 i.val) = ![0, 4 * k.val + i.val, 0, 0] := by
  revert k; decide +kernel

set_option maxHeartbeats 4000000 in
/-- One trip takes the invariant on. -/
theorem trip (𝒱 : Variants) (c : Dev nD) (bd : Option 𝒱.V) (E : Set ℕ) (i : grid0.Coords) (arg1 : Memref sig .tc .vmem S1x256x128 .bf16) (harg1 : arg1.IsWhole)
    (arg2 : Memref sig .tc .vmem S1x1x128 .f32) (harg2 : arg2.IsWhole)
    (arg3 : Memref sig .tc .vmem S1x136x176x256 .i8) (harg3 : arg3.IsWhole)
    (arg4 : Memref sig .tc .vmem S1x136x176 .f32) (harg4 : arg4.IsWhole)
    (arg5 : Memref sig .tc .vmem S1x136x176x100 .bf16) (harg5 : arg5.IsWhole)
    (arg6 : Memref sig .tc .vmem S1x68x88x100 .f32) (harg6 : arg6.IsWhole)
    (arg7 : Memref sig .tc .vmem S176x128 .f32) (harg7 : arg7.IsWhole)
    (v0 : Vec F S1x256x128 .bf16) (v2 : Vec F S1x1x128 .f32)
    (X3 : BufTy.Contents (Elt F) arg3.view.ty) (X4 : BufTy.Contents (Elt F) arg4.view.ty)
    (k : Fin k0_t1_loop.trips) :
    inv c arg3 arg4 arg5 arg6 arg7 v0 v2 X3 X4 k.val
    ⊢ wp frame (wpE (defs₀ (F := F)) 𝒱 (c : Thread nD τ) bd) E
        (k0_t1_body (F := F) i arg1 harg1 arg2 harg2 arg3 harg3 arg4 harg4 arg5 harg5 arg6 harg6 arg7 harg7 v0 v2 k PUnit.unit)
        (fun _ => inv c arg3 arg4 arg5 arg6 arg7 v0 v2 X3 X4 (k.val + 1)) := by
  have hk : k.val < 17 := Nat.lt_of_lt_of_le k.isLt k0_t1_abs.2.1
  unfold k0_t1_body
  iintro ⟨H3, H4, ⟨%f5, H5, %h5⟩, ⟨%f6, H6, %h6⟩, ⟨%f7, H7⟩⟩
  sl_exec
  sl_step
  isplitl [H3]; · iexact H3
  isplitl [H4]; · iexact H4
  isplitl [H5]
  · iexists _
    isplitl [H5]; · iexact H5
    ipureintro
    refine h5.writes _ ?_ ?_
    · have row (i : Fin 4) (j : Fin 2) {off' : Fin 4 → ℕ} (inb' : ∀ a, off' a + S1x1x176x256.size a ≤ S1x136x176x256.size a)
          (hoff' : off' = ![0, 8 * k.val + (2 * i.val + j.val), 0, 0]) (hs : S176x8.Slices ![0, 2 * i.val + j.val] S176x1) :=
        row_eq arg3 X3 arg4 X4 v0 v2 (k0_off1_inb k) inb' (8 * k.val) (2 * i.val + j.val) (by omega)
          ⟨8 * k.val + (2 * i.val + j.val), by omega⟩ rfl (off1_eq k) hoff' hs
      simp only [List.forall_mem_cons, List.not_mem_nil, false_imp_iff, implies_true, and_true]
      refine ⟨?_, ?_, ?_, ?_, ?_, ?_, ?_, ?_⟩
      · exact mask_piece v0 v2 _ _ _ _ (off3_eq k 3 1) _ (row 3 1 (k0_off2_inb k 3 1) (off2_eq k 3 1) slices_S176x8_o0_7_S176x1)
      · exact mask_piece v0 v2 _ _ _ _ (off3_eq k 3 0) _ (row 3 0 (k0_off2_inb k 3 0) (off2_eq k 3 0) slices_S176x8_o0_6_S176x1)
      · exact mask_piece v0 v2 _ _ _ _ (off3_eq k 2 1) _ (row 2 1 (k0_off2_inb k 2 1) (off2_eq k 2 1) slices_S176x8_o0_5_S176x1)
      · exact mask_piece v0 v2 _ _ _ _ (off3_eq k 2 0) _ (row 2 0 (k0_off2_inb k 2 0) (off2_eq k 2 0) slices_S176x8_o0_4_S176x1)
      · exact mask_piece v0 v2 _ _ _ _ (off3_eq k 1 1) _ (row 1 1 (k0_off2_inb k 1 1) (off2_eq k 1 1) slices_S176x8_o0_3_S176x1)
      · exact mask_piece v0 v2 _ _ _ _ (off3_eq k 1 0) _ (row 1 0 (k0_off2_inb k 1 0) (off2_eq k 1 0) slices_S176x8_o0_2_S176x1)
      · exact mask_piece v0 v2 _ _ _ _ (off3_eq k 0 1) _ (row 0 1 (k0_off2_inb k 0 1) (off2_eq k 0 1) slices_S176x8_o0_1_S176x1)
      · exact mask_piece v0 v2 _ _ _ _ (off3_eq k 0 0) _ (row 0 0 (k0_off2_inb k 0 0) (off2_eq k 0 0) slices_S176x8_o0_0_S176x1)
    · intro y h1 h2
      have hr : (y 1).val = 8 * k.val + 0 ∨ (y 1).val = 8 * k.val + 1 ∨ (y 1).val = 8 * k.val + 2 ∨ (y 1).val = 8 * k.val + 3
          ∨ (y 1).val = 8 * k.val + 4 ∨ (y 1).val = 8 * k.val + 5 ∨ (y 1).val = 8 * k.val + 6 ∨ (y 1).val = 8 * k.val + 7 := by
        omega
      rcases hr with hr | hr | hr | hr | hr | hr | hr | hr
      · exact ⟨_, (.tail _ (.tail _ (.tail _ (.tail _ (.tail _ (.tail _ (.tail _ (.head _)))))))), mem_mask (k0_off3_inb k 0 0) _ (off3_eq k 0 0) y hr⟩
      · exact ⟨_, (.tail _ (.tail _ (.tail _ (.tail _ (.tail _ (.tail _ (.head _))))))), mem_mask (k0_off3_inb k 0 1) _ (off3_eq k 0 1) y hr⟩
      · exact ⟨_, (.tail _ (.tail _ (.tail _ (.tail _ (.tail _ (.head _)))))), mem_mask (k0_off3_inb k 1 0) _ (off3_eq k 1 0) y hr⟩
      · exact ⟨_, (.tail _ (.tail _ (.tail _ (.tail _ (.head _))))), mem_mask (k0_off3_inb k 1 1) _ (off3_eq k 1 1) y hr⟩
      · exact ⟨_, (.tail _ (.tail _ (.tail _ (.head _)))), mem_mask (k0_off3_inb k 2 0) _ (off3_eq k 2 0) y hr⟩
      · exact ⟨_, (.tail _ (.tail _ (.head _))), mem_mask (k0_off3_inb k 2 1) _ (off3_eq k 2 1) y hr⟩
      · exact ⟨_, (.tail _ (.head _)), mem_mask (k0_off3_inb k 3 0) _ (off3_eq k 3 0) y hr⟩
      · exact ⟨_, (.head _), mem_mask (k0_off3_inb k 3 1) _ (off3_eq k 3 1) y hr⟩
  isplitl [H6]
  · iexists _
    isplitl [H6]; · iexact H6
    ipureintro
    refine h6.writes _ ?_ ?_
    · have row (i : Fin 4) (j : Fin 2) {off' : Fin 4 → ℕ} (inb' : ∀ a, off' a + S1x1x176x256.size a ≤ S1x136x176x256.size a)
          (hoff' : off' = ![0, 8 * k.val + (2 * i.val + j.val), 0, 0]) (hs : S176x8.Slices ![0, 2 * i.val + j.val] S176x1) :=
        row_eq arg3 X3 arg4 X4 v0 v2 (k0_off1_inb k) inb' (8 * k.val) (2 * i.val + j.val) (by omega)
          ⟨8 * k.val + (2 * i.val + j.val), by omega⟩ rfl (off1_eq k) hoff' hs
      have put (i : Fin 4) {off' : Fin 4 → ℕ} (inb : ∀ a, off' a + S1x1x88x100.size a ≤ S1x68x88x100.size a)
          (hoff : off' = ![0, 4 * k.val + i.val, 0, 0]) (A B : FVec F S176x128 .f32)
          (hA : A = maskRow v0 v2 (arg3.view.read (Elt F) X3) (arg4.view.read (Elt F) X4) ⟨8 * k.val + (2 * i.val + 0), by omega⟩)
          (hB : B = maskRow v0 v2 (arg3.view.read (Elt F) X3) (arg4.view.read (Elt F) X4) ⟨8 * k.val + (2 * i.val + 1), by omega⟩)
          (L : List (View.Piece (Elt F) S176x128 .f32)) (x : S1x1x88x100.Idx) :
          k0_pay12 (k0_pay11
            (arg7.view.readCov (Val := Elt F) ((⟨Rect.unit (s := S176x128) ![0, 0] S176x128.size inb_S176x128_S176x128_0_0, k0_pay10 A B⟩ : View.Piece (Elt F) S176x128 .f32) :: L)
              (⟨![0, 0], S88x128.size, ![2, 1], inb_S176x128_S88x128_0_0_s_2_1⟩ : LoadRect S176x128))
            (arg7.view.readCov (Val := Elt F) ((⟨Rect.unit (s := S176x128) ![0, 0] S176x128.size inb_S176x128_S176x128_0_0, k0_pay10 A B⟩ : View.Piece (Elt F) S176x128 .f32) :: L)
              (⟨![1, 0], S88x128.size, ![2, 1], inb_S176x128_S88x128_1_0_s_2_1⟩ : LoadRect S176x128))) x
            = downBlk v0 v2 (arg3.view.read (Elt F) X3) (arg4.view.read (Elt F) X4)
                ((Rect.unit (s := S1x68x88x100) off' S1x1x88x100.size inb).emb x) := by
        rw [load_evens, load_odds]
        exact down_piece v0 v2 _ _ inb ⟨4 * k.val + i.val, by omega⟩ hoff _ _
          (by show 8 * k.val + (2 * i.val + 0) = 2 * (4 * k.val + i.val); omega)
          (by show 8 * k.val + (2 * i.val + 1) = 2 * (4 * k.val + i.val) + 1; omega) A B hA hB x
      simp only [List.forall_mem_cons, List.not_mem_nil, false_imp_iff, implies_true, and_true]
      refine ⟨?_, ?_, ?_, ?_⟩
      · exact put 3 _ (off4_eq k 3) _ _ (row 3 0 (k0_off2_inb k 3 0) (off2_eq k 3 0) slices_S176x8_o0_6_S176x1)
          (row 3 1 (k0_off2_inb k 3 1) (off2_eq k 3 1) slices_S176x8_o0_7_S176x1) _
      · exact put 2 _ (off4_eq k 2) _ _ (row 2 0 (k0_off2_inb k 2 0) (off2_eq k 2 0) slices_S176x8_o0_4_S176x1)
          (row 2 1 (k0_off2_inb k 2 1) (off2_eq k 2 1) slices_S176x8_o0_5_S176x1) _
      · exact put 1 _ (off4_eq k 1) _ _ (row 1 0 (k0_off2_inb k 1 0) (off2_eq k 1 0) slices_S176x8_o0_2_S176x1)
          (row 1 1 (k0_off2_inb k 1 1) (off2_eq k 1 1) slices_S176x8_o0_3_S176x1) _
      · exact put 0 _ (off4_eq k 0) _ _ (row 0 0 (k0_off2_inb k 0 0) (off2_eq k 0 0) slices_S176x8_o0_0_S176x1)
          (row 0 1 (k0_off2_inb k 0 1) (off2_eq k 0 1) slices_S176x8_o0_1_S176x1) _
    · intro y h1 h2
      have hr : (y 1).val = 4 * k.val + 0 ∨ (y 1).val = 4 * k.val + 1 ∨ (y 1).val = 4 * k.val + 2 ∨ (y 1).val = 4 * k.val + 3 := by
        omega
      rcases hr with hr | hr | hr | hr
      · exact ⟨_, (.tail _ (.tail _ (.tail _ (.head _)))), mem_down (k0_off4_inb k 0) _ (off4_eq k 0) y hr⟩
      · exact ⟨_, (.tail _ (.tail _ (.head _))), mem_down (k0_off4_inb k 1) _ (off4_eq k 1) y hr⟩
      · exact ⟨_, (.tail _ (.head _)), mem_down (k0_off4_inb k 2) _ (off4_eq k 2) y hr⟩
      · exact ⟨_, (.head _), mem_down (k0_off4_inb k 3) _ (off4_eq k 3) y hr⟩
  iexists _; iexact H7

/-- The loop's invariant, by the name under which a run finds it. -/
@[sl_loop, reducible] def loopInv (𝒱 : Variants) (c : Dev nD) (bd : Option 𝒱.V) (E : Set ℕ) (i : grid0.Coords) (arg1 : Memref sig .tc .vmem S1x256x128 .bf16) (harg1 : arg1.IsWhole)
    (arg2 : Memref sig .tc .vmem S1x1x128 .f32) (harg2 : arg2.IsWhole)
    (arg3 : Memref sig .tc .vmem S1x136x176x256 .i8) (harg3 : arg3.IsWhole)
    (arg4 : Memref sig .tc .vmem S1x136x176 .f32) (harg4 : arg4.IsWhole)
    (arg5 : Memref sig .tc .vmem S1x136x176x100 .bf16) (harg5 : arg5.IsWhole)
    (arg6 : Memref sig .tc .vmem S1x68x88x100 .f32) (harg6 : arg6.IsWhole)
    (arg7 : Memref sig .tc .vmem S176x128 .f32) (harg7 : arg7.IsWhole)
    (v0 : Vec F S1x256x128 .bf16) (v2 : Vec F S1x1x128 .f32)
    (X3 : BufTy.Contents (Elt F) arg3.view.ty) (X4 : BufTy.Contents (Elt F) arg4.view.ty) :
    LoopInvTy_k0_t1 (F := F) Unit ℕ (UR sig nD τ) ℕ 𝒱 c bd E i arg1 harg1 arg2 harg2 arg3 harg3 arg4 harg4 arg5 harg5 arg6 harg6 arg7 harg7 v0 v2 where
  inv k _ := inv c arg3 arg4 arg5 arg6 arg7 v0 v2 X3 X4 k
  step k _ := trip 𝒱 c bd E i arg1 harg1 arg2 harg2 arg3 harg3 arg4 harg4 arg5 harg5 arg6 harg6 arg7 harg7 v0 v2 X3 X4 k

end Cert.KernelIdeal.Mask
end
-- ==== Proof.KernelIdeal.Run.lean ====
/-
  THE RUN OF THE MASK HEAD, at any values. At one grid point the body leaves its four input blocks as they are, the two
  output blocks at `maskBlk` and `downBlk` of them, and the scratch row at something; from that the pipeline's run, with
  every argument array unchanged and every semaphore counter at zero at the end.
-/
module

public import proofs.«01_k».proof.Proof.KernelIdeal.Trip
public import proofs.«01_k».proof.Proof.Gen.KernelIdeal.Frame
public import Idealize.ShloMosaic.Lib.Claim
public import Idealize.ShloMosaic.Lib.VecWindow

@[expose] public section

set_option maxRecDepth 16384

noncomputable section

namespace Cert.KernelIdeal.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 4000000 in
/-- The body on whole memrefs: the inputs stay, the outputs end at their blocks, the scratch row at something. -/
theorem sound_kernel (c : Dev nD) (E : Set ℕ) (i : grid0.Coords)
    (arg1 : Memref sig .tc .vmem S1x256x128 .bf16) (harg1 : arg1.IsWhole)
    (arg2 : Memref sig .tc .vmem S1x1x128 .f32) (harg2 : arg2.IsWhole)
    (arg3 : Memref sig .tc .vmem S1x136x176x256 .i8) (harg3 : arg3.IsWhole)
    (arg4 : Memref sig .tc .vmem S1x136x176 .f32) (harg4 : arg4.IsWhole)
    (arg5 : Memref sig .tc .vmem S1x136x176x100 .bf16) (harg5 : arg5.IsWhole)
    (arg6 : Memref sig .tc .vmem S1x68x88x100 .f32) (harg6 : arg6.IsWhole)
    (arg7 : Memref sig .tc .vmem S176x128 .f32) (harg7 : arg7.IsWhole)
    (x0 : Vec F S1x256x128 .bf16) (x1 : Vec F S1x1x128 .f32) (x2 : Vec F S1x136x176x256 .i8) (x3 : Vec F S1x136x176 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (maskBlk x0 x1 x2 x3)
            ∗ owns (c : Thread nD τ) arg6 fullShare (downBlk x0 x1 x2 x3)
            ∗ (∃ d, owns (c : Thread nD τ) arg7 fullShare d)) -∗ K ⟨⟩))
      ⊢ wp frame (wpE (defs₀ (F := F)) Variants.none c none) E
          (cc0_mask_head i arg1 harg1 arg2 harg2 arg3 harg3 arg4 harg4 arg5 harg5 arg6 harg6 arg7 harg7) K := by
  simp only [cc0_mask_head_eq_skeleton]; unfold cc0_mask_head_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  have e1 : arg1.view.readAt (Elt F) (Rect.unit (s := S1x256x128) ![0, 0, 0] S1x256x128.size inb_S1x256x128_S1x256x128_0_0_0).toLoadRect f1
      = arg1.view.read (Elt F) f1 := View.readAt_full arg1.view f1 _
  have e2 : arg2.view.readAt (Elt F) (Rect.unit (s := S1x1x128) ![0, 0, 0] S1x1x128.size inb_S1x1x128_S1x1x128_0_0_0).toLoadRect f2
      = arg2.view.read (Elt F) f2 := View.readAt_full arg2.view f2 _
  have h5 : MaskTo arg5 (maskBlk (arg1.view.read (Elt F) f1) (arg2.view.read (Elt F) f2) (arg3.view.read (Elt F) f3)
      (arg4.view.read (Elt F) f4)) (8 * 0) f5 := fun y hy => absurd hy (by omega)
  have h6 : DownTo arg6 (downBlk (arg1.view.read (Elt F) f1) (arg2.view.read (Elt F) f2) (arg3.view.read (Elt F) f3)
      (arg4.view.read (Elt F) f4)) (4 * 0) f6 := fun y hy => absurd hy (by omega)
  sl_exec
  sl_step
  have ht : Scf.trips k0_t1_loop.lb k0_t1_loop.ub k0_t1_loop.st = 17 := by decide
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact funext fun y => hL3 y (by rw [ht]; exact (y 1).isLt)
  isplitl [H6]
  · iexists _; isplitr
    swap; · iexact H6
    ipureintro
    exact funext fun y => hL5 y (by rw [ht]; exact (y 1).isLt)
  iexists _, _; isplitr
  swap; · iexact H7
  ipureintro; rfl

/-! ## The pipeline's proof data -/

/-- The scratch row. -/
abbrev scM : Memref sig .tc .vmem S176x128 .f32 := Memref.whole cc0_scratch0

/-- What passes from point to point beside the windows: the scratch row and the generator register, at something. -/
theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- The proof data: after a point the input buffers hold their blocks, the output buffers the blocks computed of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => maskBlk (iblk m c 0 t) (iblk m c 1 t) (iblk m c 2 t) (iblk m c 3 t)
    | ⟨5, _⟩ => downBlk (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = maskBlk (iblk m c 0 t) (iblk m c 1 t) (iblk m c 2 t) (iblk m c 3 t) := by
  dsimp only [dats]
theorem after0_5 (c : Dev nD) (t : Fin cfg0.N) : (dats m 0 c).after 5 t = downBlk (iblk m c 0 t) (iblk m c 1 t) (iblk m c 2 t) (iblk m c 3 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters the program ends, every array of the pipeline at what the proof data say, every
counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.KernelIdeal.Mask
end
-- ==== Proof.KernelIdeal.Arrays.lean ====
/-
  WHAT THE TWO RESULT ARRAYS HOLD AFTER THE RUN. Each grid point writes back the two blocks of its batch entry, and the
  blocks are the pieces of the two arrays of Logits.lean.
-/
module

public import proofs.«01_k».proof.Proof.KernelIdeal.Logits
public import proofs.«01_k».proof.Proof.KernelIdeal.Run
public import Idealize.ShloMosaic.Lib.Pipeline.ValueKit

@[expose] public section

set_option maxRecDepth 16384

noncomputable section

namespace Cert.KernelIdeal.Mask

open Cert.KernelIdeal Cert.KernelIdeal.Gen
open Idealize.ShloMosaic Idealize.ShloMosaic.TcCoe Idealize.ShloMosaic.Pipeline Idealize.SL Idealize.SL.Sem

variable (m : (ℓ : Loc nD τ sig) → Buf (Elt Ideal) ℓ) (ρ : Dev nD → PrngReg)

/-- An argument array. -/
abbrev arg0 (c : Dev nD) : Vec Ideal S24x256x128 .bf16 := m ((c.tc : Thread nD τ).loc main_arg0)
abbrev arg1 (c : Dev nD) : Vec Ideal S24x1x128 .f32 := m ((c.tc : Thread nD τ).loc main_arg1)
abbrev arg2 (c : Dev nD) : Vec Ideal S24x136x176x256 .i8 := m ((c.tc : Thread nD τ).loc main_arg2)
abbrev arg3 (c : Dev nD) : Vec Ideal S24x136x176 .f32 := m ((c.tc : Thread nD τ).loc main_arg3)

/-- The batch entry of a grid point. -/
def entry (t : Fin cfg0.N) : Fin 24 := ⟨t.val, t.isLt⟩

/-- The block indices: the batch entry, and zero along every other axis. -/
theorem index_eq : ∀ t : Fin cfg0.N,
    (cfg0.win 0).index t 0 = t.val ∧
    (cfg0.win 0).index t 1 = 0 ∧
    (cfg0.win 0).index t 2 = 0 ∧
    (cfg0.win 1).index t 0 = t.val ∧
    (cfg0.win 1).index t 1 = 0 ∧
    (cfg0.win 1).index t 2 = 0 ∧
    (cfg0.win 2).index t 0 = t.val ∧
    (cfg0.win 2).index t 1 = 0 ∧
    (cfg0.win 2).index t 2 = 0 ∧
    (cfg0.win 2).index t 3 = 0 ∧
    (cfg0.win 3).index t 0 = t.val ∧
    (cfg0.win 3).index t 1 = 0 ∧
    (cfg0.win 3).index t 2 = 0 ∧
    (cfg0.win 4).index t 0 = t.val ∧
    (cfg0.win 4).index t 1 = 0 ∧
    (cfg0.win 4).index t 2 = 0 ∧
    (cfg0.win 4).index t 3 = 0 ∧
    (cfg0.win 5).index t 0 = t.val ∧
    (cfg0.win 5).index t 1 = 0 ∧
    (cfg0.win 5).index t 2 = 0 ∧
    (cfg0.win 5).index t 3 = 0 := by
  decide +kernel

theorem iblk0_apply (c : Dev nD) (t : Fin cfg0.N) (k : Fin 256) (q : Fin 128) :
    (iblk m c 0 t : Vec Ideal S1x256x128 .bf16) (ix3 0 k q) = arg0 m c (ix3 (entry t) k q) := by
  blk_ext [iblk, V, entry, index_eq t]

theorem iblk1_apply (c : Dev nD) (t : Fin cfg0.N) (q : Fin 128) :
    (iblk m c 1 t : Vec Ideal S1x1x128 .f32) (ix3 0 0 q) = arg1 m c (ix3 (entry t) 0 q) := by
  blk_ext [iblk, V, entry, index_eq t]

theorem iblk2_apply (c : Dev nD) (t : Fin cfg0.N) (h : Fin 136) (w : Fin 176) (k : Fin 256) :
    (iblk m c 2 t : Vec Ideal S1x136x176x256 .i8) (ix4 0 h w k) = arg2 m c (ix4 (entry t) h w k) := by
  blk_ext [iblk, V, entry, index_eq t]

theorem iblk3_apply (c : Dev nD) (t : Fin cfg0.N) (h : Fin 136) (w : Fin 176) :
    (iblk m c 3 t : Vec Ideal S1x136x176 .f32) (ix3 0 h w) = arg3 m c (ix3 (entry t) h w) := by
  blk_ext [iblk, V, entry, index_eq t]

/-- A row computed at point `t` holds the logits of batch entry `t`. -/
theorem maskRow_iblk (c : Dev nD) (t : Fin cfg0.N) (h : Fin 136) (w : Fin 176) (q : Fin 100) :
    maskRow (iblk m c 0 t) (iblk m c 1 t) (iblk m c 2 t) (iblk m c 3 t) h (ix2 w ⟨q.val, by omega⟩)
      = logitAt (arg0 m c) (arg1 m c) (arg2 m c) (arg3 m c) (entry t) h w q := by
  rw [maskRow_apply]
  unfold logitAt
  simp only [iblk0_apply, iblk1_apply, iblk2_apply, iblk3_apply]

theorem maskBlk_iblk (c : Dev nD) (t : Fin cfg0.N) (y : S1x136x176x100.Idx) :
    maskBlk (iblk m c 0 t) (iblk m c 1 t) (iblk m c 2 t) (iblk m c 3 t) y
      = maskArr (arg0 m c) (arg1 m c) (arg2 m c) (arg3 m c) (ix4 (entry t) (y 1) (y 2) (y 3)) :=
  (rowOut_apply _ (y 2) (y 3)).trans (maskRow_iblk m c t (y 1) (y 2) (y 3))

theorem downBlk_iblk (c : Dev nD) (t : Fin cfg0.N) (y : S1x68x88x100.Idx) :
    downBlk (iblk m c 0 t) (iblk m c 1 t) (iblk m c 2 t) (iblk m c 3 t) y
      = downArr (arg0 m c) (arg1 m c) (arg2 m c) (arg3 m c) (ix4 (entry t) (y 1) (y 2) (y 3)) := by
  refine (downOut_apply _ _ (y 2) (y 3)).trans ?_
  exact congrArg₂ avg (congrArg₂ avg (maskRow_iblk m c t _ _ (y 3)) (maskRow_iblk m c t _ _ (y 3)))
    (congrArg₂ avg (maskRow_iblk m c t _ _ (y 3)) (maskRow_iblk m c t _ _ (y 3)))

/-- The first result after the run. -/
theorem mask_array (c : Dev nD) :
    (dats m 0 c).arrAt 4 cfg0.N = maskArr (arg0 m c) (arg1 m c) (arg2 m c) (arg3 m c) := by
  refine (dats m 0 c).arrAt_eq_of_covers 4 _ (by decide +kernel) fun t hf y => ?_
  blk_simp
  rw [after0_4]
  have hi : (win0_4.blk t).view.emb y = ix4 (entry t) (y 1) (y 2) (y 3) := by
    blk_ext [entry, index_eq t]
  rw [hi]
  exact maskBlk_iblk m c t y

/-- The second result after the run. -/
theorem down_array (c : Dev nD) :
    (dats m 0 c).arrAt 5 cfg0.N = downArr (arg0 m c) (arg1 m c) (arg2 m c) (arg3 m c) := by
  refine (dats m 0 c).arrAt_eq_of_covers 5 _ (by decide +kernel) fun t hf y => ?_
  blk_simp
  rw [after0_5]
  have hi : (win0_5.blk t).view.emb y = ix4 (entry t) (y 1) (y 2) (y 3) := by
    blk_ext [entry, index_eq t]
  rw [hi]
  exact downBlk_iblk m c t y

/-- The kernel's run: its two results at the two arrays of the arguments, the arguments unchanged. -/
theorem run_values : θ_run defs (onTc (τ := τ) (main (F := Ideal))) ⟨m, fun _ => 0, ρ⟩ (fun r => ∀ c : Dev nD,
      r.2.mem ((c.tc : Thread nD τ).loc main_v0_0) = maskArr (arg0 m c) (arg1 m c) (arg2 m c) (arg3 m c)
      ∧ r.2.mem ((c.tc : Thread nD τ).loc main_v0_1) = downArr (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (mask_array m c), ((h.1 c).1 5).trans (down_array m c), h.2.1 c⟩)
    (θ_run_and (run_main m ρ) (quiescent m ρ))

end Cert.KernelIdeal.Mask
end
-- ==== Proof.Kernel.Rows.lean ====
/-
  WHAT ONE BLOCK OF THE MASK HEAD HOLDS. The kernel computes, for one batch entry, the mask logits of 136 rows of 176
  pixels for 128 query lanes, and stores the first 100 lanes twice: every row rounded to bf16 (`maskBlk`), and every pair
  of rows averaged over 2 × 2 pixels (`downBlk`). Here are those two blocks as functions of the four staged blocks (the
  transposed embedding codes, their scales, the feature codes, the feature scales), and the lemmas by which a store of one
  trip of the row loop is a piece of them.
-/
module

public import proofs.«01_k».proof.Proof.Gen.Kernel.Loops
public import Idealize.ShloMosaic.Lib.Tactic
public import Idealize.ShloMosaic.Lib.Pipeline.Kit
public import Idealize.ShloMosaic.Lib.Pointwise
public import Idealize.ShloMosaic.Lib.WritesUnit

@[expose] public section

set_option maxRecDepth 16384

noncomputable section

namespace Cert.Kernel.Mask

open Cert.Kernel Cert.Kernel.Gen
open Idealize.ShloMosaic Idealize.ShloMosaic.TcCoe Idealize.SL.Sem

variable {F : FTy → Type} [FloatOps F]

/-! ## The blocks -/

/-- The codes of row `h` of the staged feature block. -/
def codesRow (x3 : Vec F S1x136x176x256 .i8) (h : Fin 136) : Vec F S1x1x176x256 .i8 :=
  fun y => x3 (ix4 (0 : Fin 1) h (y 2) (y 3))

/-- The scales of the 176 pixels of row `h`, as a column. -/
def scaleCol (x4 : Vec F S1x136x176 .f32) (h : Fin 136) : FVec F S176x1 .f32 :=
  fun y => x4 (ix3 (0 : Fin 1) h (y 0))

/-- The logits of one row from its codes and its column of scales: the exact dot products with the embedding codes, times
the embedding scales along the lanes, times the pixels' scales. -/
def rowOf (v1 : FVec F S256x128 .bf16) (v3 : FVec F S1x128 .f32) (v13 : Vec F S1x1x176x256 .i8) (col : FVec F S176x1 .f32) :
    FVec F S176x128 .f32 :=
  mulf (mulf (matmul dot_S176x256_S256x128_S176x128_1_0_0_1_n_n none
      (sitofp .bf16 (shapeCast S176x256 v13 shapeCasts_S1x1x176x256_S176x256 : IVec S176x256 8)) v1
      (constant S176x128 .f32 0x00000000#32))
    (broadcastTo S176x128 v3 broadcasts_S1x128_S176x128)) (broadcastTo S176x128 col broadcasts_S176x1_S176x128)

/-- The logits of row `h` of the block. -/
def maskRow (v0 : Vec F S1x256x128 .bf16) (v2 : Vec F S1x1x128 .f32) (x3 : Vec F S1x136x176x256 .i8)
    (x4 : Vec F S1x136x176 .f32) (h : Fin 136) : FVec F S176x128 .f32 :=
  rowOf (k0_pay1 v0) (k0_pay2 v2) (codesRow x3 h) (scaleCol x4 h)

/-- A row of logits as it is stored: rounded to bf16, its first 100 lanes. -/
def rowOut (M : FVec F S176x128 .f32) : FVec F S1x1x176x100 .bf16 := k0_pay9 (truncf .bf16 M bitsLt_bf16_f32)

/-- The block of mask logits. -/
def maskBlk (v0 : Vec F S1x256x128 .bf16) (v2 : Vec F S1x1x128 .f32) (x3 : Vec F S1x136x176x256 .i8)
    (x4 : Vec F S1x136x176 .f32) : Vec F S1x136x176x100 .bf16 :=
  fun y => rowOut (maskRow v0 v2 x3 x4 (y 1)) (ix4 (0 : Fin 1) (0 : Fin 1) (y 2) (y 3))

/-- The even pixels of a row. -/
def evens (P : FVec F S176x128 .f32) : Vec F S88x128 .f32 :=
  fun y => P (ix2 (⟨2 * (y 0).val, by have : (y 0).val < 88 := (y 0).isLt; omega⟩ : Fin 176) (y 1))

/-- The odd pixels of a row. -/
def odds (P : FVec F S176x128 .f32) : Vec F S88x128 .f32 :=
  fun y => P (ix2 (⟨1 + 2 * (y 0).val, by have : (y 0).val < 88 := (y 0).isLt; omega⟩ : Fin 176) (y 1))

/-- One row of down-sampled logits, as it is stored, from the two rows that it averages. -/
def downOut (A B : FVec F S176x128 .f32) : FVec F S1x1x88x100 .f32 :=
  k0_pay12 (k0_pay11 (evens (k0_pay10 A B)) (odds (k0_pay10 A B)))

/-- The block of down-sampled logits: row `i` from rows `2 i` and `2 i + 1`. -/
def downBlk (v0 : Vec F S1x256x128 .bf16) (v2 : Vec F S1x1x128 .f32) (x3 : Vec F S1x136x176x256 .i8)
    (x4 : Vec F S1x136x176 .f32) : Vec F S1x68x88x100 .f32 :=
  fun y => downOut
    (maskRow v0 v2 x3 x4 (⟨2 * (y 1).val, by have : (y 1).val < 68 := (y 1).isLt; omega⟩ : Fin 136))
    (maskRow v0 v2 x3 x4 (⟨2 * (y 1).val + 1, by have : (y 1).val < 68 := (y 1).isLt; omega⟩ : Fin 136))
    (ix4 (0 : Fin 1) (0 : Fin 1) (y 2) (y 3))

/-! ## A trip's loads -/

/-- The codes loaded for row `8 k + r`. -/
theorem load_codes (arg3 : Memref sig .tc .vmem S1x136x176x256 .i8) (X3 : BufTy.Contents (Elt F) arg3.view.ty)
    {off : Fin 4 → ℕ} (inb : ∀ a, off a + S1x1x176x256.size a ≤ S1x136x176x256.size a) (h : Fin 136)
    (hoff : off = ![0, h.val, 0, 0]) :
    arg3.view.readAt (Elt F) (Rect.unit (s := S1x136x176x256) off S1x1x176x256.size inb).toLoadRect X3
      = codesRow (F := F) (arg3.view.read (Elt F) X3) h := by
  subst hoff
  funext y
  rw [View.readAt_apply]
  unfold codesRow
  congr 1
  idx_vars y
  idx_ext

/-- The scales loaded for the eight rows of a trip, transposed and cut at row `r`. -/
theorem load_scales (arg4 : Memref sig .tc .vmem S1x136x176 .f32) (X4 : BufTy.Contents (Elt F) arg4.view.ty)
    {off : Fin 3 → ℕ} (inb : ∀ a, off a + S1x8x176.size a ≤ S1x136x176.size a) (o r : ℕ) (hr : r < 8) (h : Fin 136)
    (hh : h.val = o + r) (hoff : off = ![0, o, 0]) (hs : S176x8.Slices ![0, r] S176x1) :
    extractStridedSlice S176x1 ![0, r] (k0_pay4 (F := F)
        (arg4.view.readAt (Elt F) (Rect.unit (s := S1x136x176) off S1x8x176.size inb).toLoadRect X4)) hs
      = scaleCol (F := F) (arg4.view.read (Elt F) X4) h := by
  subst hoff
  funext y
  idx_vars y
  unfold scaleCol
  pointwise [k0_pay4]
  rw [View.readAt_apply]
  congr 1
  idx_ext

/-- A row computed in a trip from its loads is the block's row. -/
theorem row_eq (arg3 : Memref sig .tc .vmem S1x136x176x256 .i8) (X3 : BufTy.Contents (Elt F) arg3.view.ty)
    (arg4 : Memref sig .tc .vmem S1x136x176 .f32) (X4 : BufTy.Contents (Elt F) arg4.view.ty)
    (v0 : Vec F S1x256x128 .bf16) (v2 : Vec F S1x1x128 .f32)
    {off : Fin 3 → ℕ} (inb : ∀ a, off a + S1x8x176.size a ≤ S1x136x176.size a)
    {off' : Fin 4 → ℕ} (inb' : ∀ a, off' a + S1x1x176x256.size a ≤ S1x136x176x256.size a)
    (o r : ℕ) (hr : r < 8) (h : Fin 136) (hh : h.val = o + r) (hoff : off = ![0, o, 0]) (hoff' : off' = ![0, o + r, 0, 0])
    (hs : S176x8.Slices ![0, r] S176x1) :
    rowOf (k0_pay1 v0) (k0_pay2 v2)
        (arg3.view.readAt (Elt F) (Rect.unit (s := S1x136x176x256) off' S1x1x176x256.size inb').toLoadRect X3)
        (extractStridedSlice S176x1 ![0, r] (k0_pay4 (F := F)
          (arg4.view.readAt (Elt F) (Rect.unit (s := S1x136x176) off S1x8x176.size inb).toLoadRect X4)) hs)
      = maskRow v0 v2 (arg3.view.read (Elt F) X3) (arg4.view.read (Elt F) X4) h := by
  rw [load_codes arg3 X3 inb' h (by rw [hoff', hh]), load_scales arg4 X4 inb o r hr h hh hoff hs]
  rfl

/-! ## A trip's stores -/

/-- A row stored at row `h` is that row of the block of mask logits. -/
theorem mask_piece (v0 : Vec F S1x256x128 .bf16) (v2 : Vec F S1x1x128 .f32) (x3 : Vec F S1x136x176x256 .i8)
    (x4 : Vec F S1x136x176 .f32) {off : Fin 4 → ℕ} (inb : ∀ a, off a + S1x1x176x100.size a ≤ S1x136x176x100.size a)
    (h : Fin 136) (hoff : off = ![0, h.val, 0, 0]) (M : FVec F S176x128 .f32) (hM : M = maskRow v0 v2 x3 x4 h)
    (x : S1x1x176x100.Idx) :
    rowOut M x = maskBlk v0 v2 x3 x4 ((Rect.unit (s := S1x136x176x100) off S1x1x176x100.size inb).emb x) := by
  subst hoff hM
  unfold maskBlk
  have h1 : (Rect.unit (s := S1x136x176x100) ![0, h.val, 0, 0] S1x1x176x100.size inb).emb x 1 = h := by
    idx_vars x; apply Fin.ext; simp
  rw [h1]
  congr 1
  idx_vars x
  idx_ext

/-- A down-sampled row stored at row `i` is that row of the block of down-sampled logits. -/
theorem down_piece (v0 : Vec F S1x256x128 .bf16) (v2 : Vec F S1x1x128 .f32) (x3 : Vec F S1x136x176x256 .i8)
    (x4 : Vec F S1x136x176 .f32) {off : Fin 4 → ℕ} (inb : ∀ a, off a + S1x1x88x100.size a ≤ S1x68x88x100.size a)
    (i : Fin 68) (hoff : off = ![0, i.val, 0, 0]) (a b : Fin 136) (ha : a.val = 2 * i.val) (hb : b.val = 2 * i.val + 1)
    (A B : FVec F S176x128 .f32) (hA : A = maskRow v0 v2 x3 x4 a) (hB : B = maskRow v0 v2 x3 x4 b) (x : S1x1x88x100.Idx) :
    downOut A B x = downBlk v0 v2 x3 x4 ((Rect.unit (s := S1x68x88x100) off S1x1x88x100.size inb).emb x) := by
  subst hoff hA hB
  unfold downBlk
  have h1 : (Rect.unit (s := S1x68x88x100) ![0, i.val, 0, 0] S1x1x88x100.size inb).emb x 1 = i := by
    idx_vars x; apply Fin.ext; simp
  have h2 := congrArg Fin.val h1
  refine (congrArg₂ (fun A B => downOut A B x)
    (congrArg (maskRow v0 v2 x3 x4) (Fin.ext (ha.trans (congrArg (2 * ·) h2.symm))))
    (congrArg (maskRow v0 v2 x3 x4) (Fin.ext (hb.trans (congrArg (2 * · + 1) h2.symm))))).trans (congrArg _ ?_)
  idx_vars x
  idx_ext

/-- The even pixels, loaded back from a row stored whole. -/
theorem load_evens (v : View sig .tc .vmem S176x128 .f32) (P : FVec F S176x128 .f32)
    (L : List (View.Piece (Elt F) S176x128 .f32)) :
    v.readCov (Val := Elt F) ((⟨Rect.unit (s := S176x128) ![0, 0] S176x128.size inb_S176x128_S176x128_0_0, P⟩ : View.Piece (Elt F) S176x128 .f32) :: L)
      (⟨![0, 0], S88x128.size, ![2, 1], inb_S176x128_S88x128_0_0_s_2_1⟩ : LoadRect S176x128) = evens P := by
  rw [View.readCov_eq_canon', View.canon_cons_unit_zero (by decide)]
  funext y
  unfold evens
  congr 1
  idx_vars y
  idx_ext

/-- The odd pixels, loaded back from a row stored whole. -/
theorem load_odds (v : View sig .tc .vmem S176x128 .f32) (P : FVec F S176x128 .f32)
    (L : List (View.Piece (Elt F) S176x128 .f32)) :
    v.readCov (Val := Elt F) ((⟨Rect.unit (s := S176x128) ![0, 0] S176x128.size inb_S176x128_S176x128_0_0, P⟩ : View.Piece (Elt F) S176x128 .f32) :: L)
      (⟨![1, 0], S88x128.size, ![2, 1], inb_S176x128_S88x128_1_0_s_2_1⟩ : LoadRect S176x128) = odds P := by
  rw [View.readCov_eq_canon', View.canon_cons_unit_zero (by decide)]
  funext y
  unfold odds
  congr 1
  idx_vars y
  idx_ext

end Cert.Kernel.Mask
end
-- ==== Proof.Kernel.Trip.lean ====
/-
  ONE TRIP OF THE ROW LOOP, AND THE LOOP. Trip `k` stores the mask logits of rows `8 k … 8 k + 7` and the down-sampled rows
  `4 k … 4 k + 3`. Before trip `k` the two output blocks hold rows below `8 k` and below `4 k` of `maskBlk` and `downBlk`
  (`MaskTo`, `DownTo`); the scratch row holds anything.
-/
module

public import proofs.«01_k».proof.Proof.Kernel.Rows

@[expose] public section

set_option maxRecDepth 16384

noncomputable section

namespace Cert.Kernel.Mask

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows below `n` of a mask block are `G`'s. -/
def MaskTo (arg5 : Memref sig .tc .vmem S1x136x176x100 .bf16) (G : Vec F S1x136x176x100 .bf16) (n : ℕ)
    (g : BufTy.Contents (Elt F) arg5.view.ty) : Prop :=
  ∀ y : S1x136x176x100.Idx, (y 1).val < n → arg5.view.read (Elt F) g y = G y

/-- The rows below `n` of a down-sampled block are `G`'s. -/
def DownTo (arg6 : Memref sig .tc .vmem S1x68x88x100 .f32) (G : Vec F S1x68x88x100 .f32) (n : ℕ)
    (g : BufTy.Contents (Elt F) arg6.view.ty) : Prop :=
  ∀ y : S1x68x88x100.Idx, (y 1).val < n → arg6.view.read (Elt F) g y = G y

/-- The loop's invariant before trip `k`. -/
abbrev inv (c : Dev nD) (arg3 : Memref sig .tc .vmem S1x136x176x256 .i8) (arg4 : Memref sig .tc .vmem S1x136x176 .f32)
    (arg5 : Memref sig .tc .vmem S1x136x176x100 .bf16) (arg6 : Memref sig .tc .vmem S1x68x88x100 .f32)
    (arg7 : Memref sig .tc .vmem S176x128 .f32) (v0 : Vec F S1x256x128 .bf16) (v2 : Vec F S1x1x128 .f32)
    (X3 : BufTy.Contents (Elt F) arg3.view.ty) (X4 : BufTy.Contents (Elt F) arg4.view.ty) (k : ℕ) : sProp 𝕄 :=
  iprop((arg3.view.loc (c : Thread nD τ) ↦[arg3.view.set]{fullShare} X3)
    ∗ (arg4.view.loc (c : Thread nD τ) ↦[arg4.view.set]{fullShare} X4)
    ∗ (∃ g5, (arg5.view.loc (c : Thread nD τ) ↦[arg5.view.set]{fullShare} g5)
        ∗ ⌜MaskTo arg5 (maskBlk v0 v2 (arg3.view.read (Elt F) X3) (arg4.view.read (Elt F) X4)) (8 * k) g5⌝)
    ∗ (∃ g6, (arg6.view.loc (c : Thread nD τ) ↦[arg6.view.set]{fullShare} g6)
        ∗ ⌜DownTo arg6 (downBlk v0 v2 (arg3.view.read (Elt F) X3) (arg4.view.read (Elt F) X4)) (4 * k) g6⌝)
    ∗ (∃ g7, arg7.view.loc (c : Thread nD τ) ↦[arg7.view.set]{fullShare} g7))

/-- Stores that are rows of `G` and cover the rows from `n` to below `n'` take the filled part on. -/
theorem MaskTo.writes {arg5 : Memref sig .tc .vmem S1x136x176x100 .bf16} {G : Vec F S1x136x176x100 .bf16} {n n' : ℕ}
    {g : BufTy.Contents (Elt F) arg5.view.ty} (h : MaskTo arg5 G n g) (L : List (View.Piece (Elt F) S1x136x176x100 .bf16))
    (hL : ∀ p ∈ L, ∀ x : p.1.shape.Idx, p.2 x = G (p.1.emb x))
    (hc : ∀ y : S1x136x176x100.Idx, n ≤ (y 1).val → (y 1).val < n' → ∃ p ∈ L, y ∈ p.1.set) :
    MaskTo arg5 G n' (arg5.view.writes (Elt F) g L) := fun y hy => by
  by_cases hp : ∃ p ∈ L, y ∈ p.1.set
  · exact View.read_writes_apply_of_pieces _ _ G L hL y hp
  · rw [View.read_writes_apply_of_forall_not_mem _ _ y L fun p hm hy' => hp ⟨p, hm, hy'⟩]
    exact h y (by by_contra hn; exact hp (hc y (by omega) hy))

/-- The same for the down-sampled block. -/
theorem DownTo.writes {arg6 : Memref sig .tc .vmem S1x68x88x100 .f32} {G : Vec F S1x68x88x100 .f32} {n n' : ℕ}
    {g : BufTy.Contents (Elt F) arg6.view.ty} (h : DownTo arg6 G n g) (L : List (View.Piece (Elt F) S1x68x88x100 .f32))
    (hL : ∀ p ∈ L, ∀ x : p.1.shape.Idx, p.2 x = G (p.1.emb x))
    (hc : ∀ y : S1x68x88x100.Idx, n ≤ (y 1).val → (y 1).val < n' → ∃ p ∈ L, y ∈ p.1.set) :
    DownTo arg6 G n' (arg6.view.writes (Elt F) g L) := fun y hy => by
  by_cases hp : ∃ p ∈ L, y ∈ p.1.set
  · exact View.read_writes_apply_of_pieces _ _ G L hL y hp
  · rw [View.read_writes_apply_of_forall_not_mem _ _ y L fun p hm hy' => hp ⟨p, hm, hy'⟩]
    exact h y (by by_contra hn; exact hp (hc y (by omega) hy))

/-- A place of the mask block lies in the store of its row. -/
theorem mem_mask {off : Fin 4 → ℕ} (inb : ∀ a, off a + S1x1x176x100.size a ≤ S1x136x176x100.size a) (n : ℕ)
    (hoff : off = ![0, n, 0, 0]) (y : S1x136x176x100.Idx) (hy : (y 1).val = n) :
    y ∈ (Rect.unit (s := S1x136x176x100) off S1x1x176x100.size inb).set := by
  subst hoff
  rw [Rect.mem_set_unit]
  idx_vars y
  intro a
  fin_cases a <;> simp at hy ⊢ <;> omega

/-- A place of the down-sampled block lies in the store of its row. -/
theorem mem_down {off : Fin 4 → ℕ} (inb : ∀ a, off a + S1x1x88x100.size a ≤ S1x68x88x100.size a) (n : ℕ)
    (hoff : off = ![0, n, 0, 0]) (y : S1x68x88x100.Idx) (hy : (y 1).val = n) :
    y ∈ (Rect.unit (s := S1x68x88x100) off S1x1x88x100.size inb).set := by
  subst hoff
  rw [Rect.mem_set_unit]
  idx_vars y
  intro a
  fin_cases a <;> simp at hy ⊢ <;> omega

/-! ### The offsets of a trip -/

theorem off1_eq (k : Fin k0_t1_loop.trips) : k0_off1 k = ![0, 8 * k.val, 0] := by revert k; decide +kernel

theorem off2_eq (k : Fin k0_t1_loop.trips) : ∀ (i : Fin 4) (j : Fin 2),
    k0_off2 k (BitVec.ofNat 32 (2 * i.val)) (BitVec.ofNat 32 j.val) = ![0, 8 * k.val + (2 * i.val + j.val), 0, 0] := by
  revert k; decide +kernel

theorem off3_eq (k : Fin k0_t1_loop.trips) : ∀ (i : Fin 4) (j : Fin 2),
    k0_off3 k (BitVec.ofNat 32 (2 * i.val)) (BitVec.ofNat 32 j.val) = ![0, 8 * k.val + (2 * i.val + j.val), 0, 0] := by
  revert k; decide +kernel

theorem off4_eq (k : Fin k0_t1_loop.trips) : ∀ i : Fin 4,
    k0_off4 k (BitVec.ofNat 32 i.val) = ![0, 4 * k.val + i.val, 0, 0] := by
  revert k; decide +kernel

set_option maxHeartbeats 4000000 in
/-- One trip takes the invariant on. -/
theorem trip (𝒱 : Variants) (c : Dev nD) (bd : Option 𝒱.V) (E : Set ℕ) (i : grid0.Coords) (arg1 : Memref sig .tc .vmem S1x256x128 .bf16) (harg1 : arg1.IsWhole)
    (arg2 : Memref sig .tc .vmem S1x1x128 .f32) (harg2 : arg2.IsWhole)
    (arg3 : Memref sig .tc .vmem S1x136x176x256 .i8) (harg3 : arg3.IsWhole)
    (arg4 : Memref sig .tc .vmem S1x136x176 .f32) (harg4 : arg4.IsWhole)
    (arg5 : Memref sig .tc .vmem S1x136x176x100 .bf16) (harg5 : arg5.IsWhole)
    (arg6 : Memref sig .tc .vmem S1x68x88x100 .f32) (harg6 : arg6.IsWhole)
    (arg7 : Memref sig .tc .vmem S176x128 .f32) (harg7 : arg7.IsWhole)
    (v0 : Vec F S1x256x128 .bf16) (v2 : Vec F S1x1x128 .f32)
    (X3 : BufTy.Contents (Elt F) arg3.view.ty) (X4 : BufTy.Contents (Elt F) arg4.view.ty)
    (k : Fin k0_t1_loop.trips) :
    inv c arg3 arg4 arg5 arg6 arg7 v0 v2 X3 X4 k.val
    ⊢ wp frame (wpE (defs₀ (F := F)) 𝒱 (c : Thread nD τ) bd) E
        (k0_t1_body (F := F) i arg1 harg1 arg2 harg2 arg3 harg3 arg4 harg4 arg5 harg5 arg6 harg6 arg7 harg7 v0 v2 k PUnit.unit)
        (fun _ => inv c arg3 arg4 arg5 arg6 arg7 v0 v2 X3 X4 (k.val + 1)) := by
  have hk : k.val < 17 := Nat.lt_of_lt_of_le k.isLt k0_t1_abs.2.1
  unfold k0_t1_body
  iintro ⟨H3, H4, ⟨%f5, H5, %h5⟩, ⟨%f6, H6, %h6⟩, ⟨%f7, H7⟩⟩
  sl_exec
  sl_step
  isplitl [H3]; · iexact H3
  isplitl [H4]; · iexact H4
  isplitl [H5]
  · iexists _
    isplitl [H5]; · iexact H5
    ipureintro
    refine h5.writes _ ?_ ?_
    · have row (i : Fin 4) (j : Fin 2) {off' : Fin 4 → ℕ} (inb' : ∀ a, off' a + S1x1x176x256.size a ≤ S1x136x176x256.size a)
          (hoff' : off' = ![0, 8 * k.val + (2 * i.val + j.val), 0, 0]) (hs : S176x8.Slices ![0, 2 * i.val + j.val] S176x1) :=
        row_eq arg3 X3 arg4 X4 v0 v2 (k0_off1_inb k) inb' (8 * k.val) (2 * i.val + j.val) (by omega)
          ⟨8 * k.val + (2 * i.val + j.val), by omega⟩ rfl (off1_eq k) hoff' hs
      simp only [List.forall_mem_cons, List.not_mem_nil, false_imp_iff, implies_true, and_true]
      refine ⟨?_, ?_, ?_, ?_, ?_, ?_, ?_, ?_⟩
      · exact mask_piece v0 v2 _ _ _ _ (off3_eq k 3 1) _ (row 3 1 (k0_off2_inb k 3 1) (off2_eq k 3 1) slices_S176x8_o0_7_S176x1)
      · exact mask_piece v0 v2 _ _ _ _ (off3_eq k 3 0) _ (row 3 0 (k0_off2_inb k 3 0) (off2_eq k 3 0) slices_S176x8_o0_6_S176x1)
      · exact mask_piece v0 v2 _ _ _ _ (off3_eq k 2 1) _ (row 2 1 (k0_off2_inb k 2 1) (off2_eq k 2 1) slices_S176x8_o0_5_S176x1)
      · exact mask_piece v0 v2 _ _ _ _ (off3_eq k 2 0) _ (row 2 0 (k0_off2_inb k 2 0) (off2_eq k 2 0) slices_S176x8_o0_4_S176x1)
      · exact mask_piece v0 v2 _ _ _ _ (off3_eq k 1 1) _ (row 1 1 (k0_off2_inb k 1 1) (off2_eq k 1 1) slices_S176x8_o0_3_S176x1)
      · exact mask_piece v0 v2 _ _ _ _ (off3_eq k 1 0) _ (row 1 0 (k0_off2_inb k 1 0) (off2_eq k 1 0) slices_S176x8_o0_2_S176x1)
      · exact mask_piece v0 v2 _ _ _ _ (off3_eq k 0 1) _ (row 0 1 (k0_off2_inb k 0 1) (off2_eq k 0 1) slices_S176x8_o0_1_S176x1)
      · exact mask_piece v0 v2 _ _ _ _ (off3_eq k 0 0) _ (row 0 0 (k0_off2_inb k 0 0) (off2_eq k 0 0) slices_S176x8_o0_0_S176x1)
    · intro y h1 h2
      have hr : (y 1).val = 8 * k.val + 0 ∨ (y 1).val = 8 * k.val + 1 ∨ (y 1).val = 8 * k.val + 2 ∨ (y 1).val = 8 * k.val + 3
          ∨ (y 1).val = 8 * k.val + 4 ∨ (y 1).val = 8 * k.val + 5 ∨ (y 1).val = 8 * k.val + 6 ∨ (y 1).val = 8 * k.val + 7 := by
        omega
      rcases hr with hr | hr | hr | hr | hr | hr | hr | hr
      · exact ⟨_, (.tail _ (.tail _ (.tail _ (.tail _ (.tail _ (.tail _ (.tail _ (.head _)))))))), mem_mask (k0_off3_inb k 0 0) _ (off3_eq k 0 0) y hr⟩
      · exact ⟨_, (.tail _ (.tail _ (.tail _ (.tail _ (.tail _ (.tail _ (.head _))))))), mem_mask (k0_off3_inb k 0 1) _ (off3_eq k 0 1) y hr⟩
      · exact ⟨_, (.tail _ (.tail _ (.tail _ (.tail _ (.tail _ (.head _)))))), mem_mask (k0_off3_inb k 1 0) _ (off3_eq k 1 0) y hr⟩
      · exact ⟨_, (.tail _ (.tail _ (.tail _ (.tail _ (.head _))))), mem_mask (k0_off3_inb k 1 1) _ (off3_eq k 1 1) y hr⟩
      · exact ⟨_, (.tail _ (.tail _ (.tail _ (.head _)))), mem_mask (k0_off3_inb k 2 0) _ (off3_eq k 2 0) y hr⟩
      · exact ⟨_, (.tail _ (.tail _ (.head _))), mem_mask (k0_off3_inb k 2 1) _ (off3_eq k 2 1) y hr⟩
      · exact ⟨_, (.tail _ (.head _)), mem_mask (k0_off3_inb k 3 0) _ (off3_eq k 3 0) y hr⟩
      · exact ⟨_, (.head _), mem_mask (k0_off3_inb k 3 1) _ (off3_eq k 3 1) y hr⟩
  isplitl [H6]
  · iexists _
    isplitl [H6]; · iexact H6
    ipureintro
    refine h6.writes _ ?_ ?_
    · have row (i : Fin 4) (j : Fin 2) {off' : Fin 4 → ℕ} (inb' : ∀ a, off' a + S1x1x176x256.size a ≤ S1x136x176x256.size a)
          (hoff' : off' = ![0, 8 * k.val + (2 * i.val + j.val), 0, 0]) (hs : S176x8.Slices ![0, 2 * i.val + j.val] S176x1) :=
        row_eq arg3 X3 arg4 X4 v0 v2 (k0_off1_inb k) inb' (8 * k.val) (2 * i.val + j.val) (by omega)
          ⟨8 * k.val + (2 * i.val + j.val), by omega⟩ rfl (off1_eq k) hoff' hs
      have put (i : Fin 4) {off' : Fin 4 → ℕ} (inb : ∀ a, off' a + S1x1x88x100.size a ≤ S1x68x88x100.size a)
          (hoff : off' = ![0, 4 * k.val + i.val, 0, 0]) (A B : FVec F S176x128 .f32)
          (hA : A = maskRow v0 v2 (arg3.view.read (Elt F) X3) (arg4.view.read (Elt F) X4) ⟨8 * k.val + (2 * i.val + 0), by omega⟩)
          (hB : B = maskRow v0 v2 (arg3.view.read (Elt F) X3) (arg4.view.read (Elt F) X4) ⟨8 * k.val + (2 * i.val + 1), by omega⟩)
          (L : List (View.Piece (Elt F) S176x128 .f32)) (x : S1x1x88x100.Idx) :
          k0_pay12 (k0_pay11
            (arg7.view.readCov (Val := Elt F) ((⟨Rect.unit (s := S176x128) ![0, 0] S176x128.size inb_S176x128_S176x128_0_0, k0_pay10 A B⟩ : View.Piece (Elt F) S176x128 .f32) :: L)
              (⟨![0, 0], S88x128.size, ![2, 1], inb_S176x128_S88x128_0_0_s_2_1⟩ : LoadRect S176x128))
            (arg7.view.readCov (Val := Elt F) ((⟨Rect.unit (s := S176x128) ![0, 0] S176x128.size inb_S176x128_S176x128_0_0, k0_pay10 A B⟩ : View.Piece (Elt F) S176x128 .f32) :: L)
              (⟨![1, 0], S88x128.size, ![2, 1], inb_S176x128_S88x128_1_0_s_2_1⟩ : LoadRect S176x128))) x
            = downBlk v0 v2 (arg3.view.read (Elt F) X3) (arg4.view.read (Elt F) X4)
                ((Rect.unit (s := S1x68x88x100) off' S1x1x88x100.size inb).emb x) := by
        rw [load_evens, load_odds]
        exact down_piece v0 v2 _ _ inb ⟨4 * k.val + i.val, by omega⟩ hoff _ _
          (by show 8 * k.val + (2 * i.val + 0) = 2 * (4 * k.val + i.val); omega)
          (by show 8 * k.val + (2 * i.val + 1) = 2 * (4 * k.val + i.val) + 1; omega) A B hA hB x
      simp only [List.forall_mem_cons, List.not_mem_nil, false_imp_iff, implies_true, and_true]
      refine ⟨?_, ?_, ?_, ?_⟩
      · exact put 3 _ (off4_eq k 3) _ _ (row 3 0 (k0_off2_inb k 3 0) (off2_eq k 3 0) slices_S176x8_o0_6_S176x1)
          (row 3 1 (k0_off2_inb k 3 1) (off2_eq k 3 1) slices_S176x8_o0_7_S176x1) _
      · exact put 2 _ (off4_eq k 2) _ _ (row 2 0 (k0_off2_inb k 2 0) (off2_eq k 2 0) slices_S176x8_o0_4_S176x1)
          (row 2 1 (k0_off2_inb k 2 1) (off2_eq k 2 1) slices_S176x8_o0_5_S176x1) _
      · exact put 1 _ (off4_eq k 1) _ _ (row 1 0 (k0_off2_inb k 1 0) (off2_eq k 1 0) slices_S176x8_o0_2_S176x1)
          (row 1 1 (k0_off2_inb k 1 1) (off2_eq k 1 1) slices_S176x8_o0_3_S176x1) _
      · exact put 0 _ (off4_eq k 0) _ _ (row 0 0 (k0_off2_inb k 0 0) (off2_eq k 0 0) slices_S176x8_o0_0_S176x1)
          (row 0 1 (k0_off2_inb k 0 1) (off2_eq k 0 1) slices_S176x8_o0_1_S176x1) _
    · intro y h1 h2
      have hr : (y 1).val = 4 * k.val + 0 ∨ (y 1).val = 4 * k.val + 1 ∨ (y 1).val = 4 * k.val + 2 ∨ (y 1).val = 4 * k.val + 3 := by
        omega
      rcases hr with hr | hr | hr | hr
      · exact ⟨_, (.tail _ (.tail _ (.tail _ (.head _)))), mem_down (k0_off4_inb k 0) _ (off4_eq k 0) y hr⟩
      · exact ⟨_, (.tail _ (.tail _ (.head _))), mem_down (k0_off4_inb k 1) _ (off4_eq k 1) y hr⟩
      · exact ⟨_, (.tail _ (.head _)), mem_down (k0_off4_inb k 2) _ (off4_eq k 2) y hr⟩
      · exact ⟨_, (.head _), mem_down (k0_off4_inb k 3) _ (off4_eq k 3) y hr⟩
  iexists _; iexact H7

/-- The loop's invariant, by the name under which a run finds it. -/
@[sl_loop, reducible] def loopInv (𝒱 : Variants) (c : Dev nD) (bd : Option 𝒱.V) (E : Set ℕ) (i : grid0.Coords) (arg1 : Memref sig .tc .vmem S1x256x128 .bf16) (harg1 : arg1.IsWhole)
    (arg2 : Memref sig .tc .vmem S1x1x128 .f32) (harg2 : arg2.IsWhole)
    (arg3 : Memref sig .tc .vmem S1x136x176x256 .i8) (harg3 : arg3.IsWhole)
    (arg4 : Memref sig .tc .vmem S1x136x176 .f32) (harg4 : arg4.IsWhole)
    (arg5 : Memref sig .tc .vmem S1x136x176x100 .bf16) (harg5 : arg5.IsWhole)
    (arg6 : Memref sig .tc .vmem S1x68x88x100 .f32) (harg6 : arg6.IsWhole)
    (arg7 : Memref sig .tc .vmem S176x128 .f32) (harg7 : arg7.IsWhole)
    (v0 : Vec F S1x256x128 .bf16) (v2 : Vec F S1x1x128 .f32)
    (X3 : BufTy.Contents (Elt F) arg3.view.ty) (X4 : BufTy.Contents (Elt F) arg4.view.ty) :
    LoopInvTy_k0_t1 (F := F) Unit ℕ (UR sig nD τ) ℕ 𝒱 c bd E i arg1 harg1 arg2 harg2 arg3 harg3 arg4 harg4 arg5 harg5 arg6 harg6 arg7 harg7 v0 v2 where
  inv k _ := inv c arg3 arg4 arg5 arg6 arg7 v0 v2 X3 X4 k
  step k _ := trip 𝒱 c bd E i arg1 harg1 arg2 harg2 arg3 harg3 arg4 harg4 arg5 harg5 arg6 harg6 arg7 harg7 v0 v2 X3 X4 k

end Cert.Kernel.Mask
end
-- ==== Proof.Kernel.Run.lean ====
/-
  THE RUN OF THE MASK HEAD, at any values. At one grid point the body leaves its four input blocks as they are, the two
  output blocks at `maskBlk` and `downBlk` of them, and the scratch row at something; from that the pipeline's run, with
  every argument array unchanged and every semaphore counter at zero at the end.
-/
module

public import proofs.«01_k».proof.Proof.Kernel.Trip
public import proofs.«01_k».proof.Proof.Gen.Kernel.Frame
public import Idealize.ShloMosaic.Lib.Claim
public import Idealize.ShloMosaic.Lib.VecWindow

@[expose] public section

set_option maxRecDepth 16384

noncomputable section

namespace Cert.Kernel.Mask

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 4000000 in
/-- The body on whole memrefs: the inputs stay, the outputs end at their blocks, the scratch row at something. -/
theorem sound_kernel (c : Dev nD) (E : Set ℕ) (i : grid0.Coords)
    (arg1 : Memref sig .tc .vmem S1x256x128 .bf16) (harg1 : arg1.IsWhole)
    (arg2 : Memref sig .tc .vmem S1x1x128 .f32) (harg2 : arg2.IsWhole)
    (arg3 : Memref sig .tc .vmem S1x136x176x256 .i8) (harg3 : arg3.IsWhole)
    (arg4 : Memref sig .tc .vmem S1x136x176 .f32) (harg4 : arg4.IsWhole)
    (arg5 : Memref sig .tc .vmem S1x136x176x100 .bf16) (harg5 : arg5.IsWhole)
    (arg6 : Memref sig .tc .vmem S1x68x88x100 .f32) (harg6 : arg6.IsWhole)
    (arg7 : Memref sig .tc .vmem S176x128 .f32) (harg7 : arg7.IsWhole)
    (x0 : Vec F S1x256x128 .bf16) (x1 : Vec F S1x1x128 .f32) (x2 : Vec F S1x136x176x256 .i8) (x3 : Vec F S1x136x176 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (maskBlk x0 x1 x2 x3)
            ∗ owns (c : Thread nD τ) arg6 fullShare (downBlk x0 x1 x2 x3)
            ∗ (∃ d, owns (c : Thread nD τ) arg7 fullShare d)) -∗ K ⟨⟩))
      ⊢ wp frame (wpE (defs₀ (F := F)) Variants.none c none) E
          (cc0_mask_head i arg1 harg1 arg2 harg2 arg3 harg3 arg4 harg4 arg5 harg5 arg6 harg6 arg7 harg7) K := by
  simp only [cc0_mask_head_eq_skeleton]; unfold cc0_mask_head_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  have e1 : arg1.view.readAt (Elt F) (Rect.unit (s := S1x256x128) ![0, 0, 0] S1x256x128.size inb_S1x256x128_S1x256x128_0_0_0).toLoadRect f1
      = arg1.view.read (Elt F) f1 := View.readAt_full arg1.view f1 _
  have e2 : arg2.view.readAt (Elt F) (Rect.unit (s := S1x1x128) ![0, 0, 0] S1x1x128.size inb_S1x1x128_S1x1x128_0_0_0).toLoadRect f2
      = arg2.view.read (Elt F) f2 := View.readAt_full arg2.view f2 _
  have h5 : MaskTo arg5 (maskBlk (arg1.view.read (Elt F) f1) (arg2.view.read (Elt F) f2) (arg3.view.read (Elt F) f3)
      (arg4.view.read (Elt F) f4)) (8 * 0) f5 := fun y hy => absurd hy (by omega)
  have h6 : DownTo arg6 (downBlk (arg1.view.read (Elt F) f1) (arg2.view.read (Elt F) f2) (arg3.view.read (Elt F) f3)
      (arg4.view.read (Elt F) f4)) (4 * 0) f6 := fun y hy => absurd hy (by omega)
  sl_exec
  sl_step
  have ht : Scf.trips k0_t1_loop.lb k0_t1_loop.ub k0_t1_loop.st = 17 := by decide
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact funext fun y => hL3 y (by rw [ht]; exact (y 1).isLt)
  isplitl [H6]
  · iexists _; isplitr
    swap; · iexact H6
    ipureintro
    exact funext fun y => hL5 y (by rw [ht]; exact (y 1).isLt)
  iexists _, _; isplitr
  swap; · iexact H7
  ipureintro; rfl

/-! ## The pipeline's proof data -/

/-- The scratch row. -/
abbrev scM : Memref sig .tc .vmem S176x128 .f32 := Memref.whole cc0_scratch0

/-- What passes from point to point beside the windows: the scratch row and the generator register, at something. -/
theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- The proof data: after a point the input buffers hold their blocks, the output buffers the blocks computed of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => maskBlk (iblk m c 0 t) (iblk m c 1 t) (iblk m c 2 t) (iblk m c 3 t)
    | ⟨5, _⟩ => downBlk (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = maskBlk (iblk m c 0 t) (iblk m c 1 t) (iblk m c 2 t) (iblk m c 3 t) := by
  dsimp only [dats]
theorem after0_5 (c : Dev nD) (t : Fin cfg0.N) : (dats m 0 c).after 5 t = downBlk (iblk m c 0 t) (iblk m c 1 t) (iblk m c 2 t) (iblk m c 3 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters the program ends, every array of the pipeline at what the proof data say, every
counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.Kernel.Mask
end
-- ==== Proof.RefEq.lean ====
/-
  WHAT THE REFERENCE COMPUTES. Its first result is the array of logits; its second contracts the rows, then the pixels,
  with matrices whose row `i` holds one half at `2 i` and at `2 i + 1` and zero elsewhere, so each contraction is the
  average of two neighbours.
-/
module

public import proofs.«01_k».proof.Proof.KernelIdeal.Logits
public import proofs.«01_k».proof.Proof.Gen.ReferenceIdeal.Run

@[expose] public section

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo
open Cert.KernelIdeal.Mask (logitAt maskArr downArr avg half)

/-! ## The reference's term, in parts -/

/-- The logits, before they are rounded. -/
def mask (a0 : Vec Ideal S24x256x128 .bf16) (a1 : Vec Ideal S24x1x128 .f32) (a2 : Vec Ideal S24x136x176x256 .i8)
    (a3 : Vec Ideal S24x136x176 .f32) : FVec Ideal S24x136x176x100 .f32 :=
  mulf (mulf (Host.dotGeneral dot_S24x136x176x256_S24x256x100_S24x136x176x100_3_1_12_2_0_0 none (truncf .bf16 (sitofp .f32 (extsi 32 a2 natLt_8_32)) bitsLt_bf16_f32) (extractStridedSlice S24x256x100 ![0, 0, 0] a0 slices_S24x256x128_S24x256x100_0_0_0 : FVec Ideal S24x256x100 .bf16)) (broadcastInDim S24x136x176x100 ![0, 1, 2, 3] bcast_S24x1x1x100_S24x136x176x100_0_1_2_3 (broadcastInDim S24x1x1x100 ![0, 3] bcast_S24x100_S24x1x1x100_0_3 (shapeCast _ (extractStridedSlice S24x1x100 ![0, 0, 0] a1 slices_S24x1x128_S24x1x100_0_0_0) shapeCasts_S24x1x100_S24x100)))) (broadcastInDim S24x136x176x100 ![0, 1, 2, 3] bcast_S24x136x176x1_S24x136x176x100_0_1_2_3 (broadcastInDim S24x136x176x1 ![0, 1, 2] bcast_S24x136x176_S24x136x176x1_0_1_2 a3))

/-- The matrix of the row taps. -/
def taps68 : FVec Ideal S68x136 .f32 :=
  select (ori (cmpi .eq (broadcastInDim S68x136 ![0, 1] bcast_S1x136_S68x136_0_1 (broadcastInDim S1x136 ![1] bcast_S136_S1x136_1 (iotaInDim S136 32 0))) (broadcastInDim S68x136 ![0, 1] bcast_S68x1_S68x136_0_1 (subi (addi (muli (broadcastInDim S68x1 ![] bcast_S_S68x1 (constantI S_ 32 2#32)) (broadcastInDim S68x1 ![0] bcast_S68_S68x1_0 (iotaInDim S68 32 0))) (broadcastInDim S68x1 ![] bcast_S_S68x1 (constantI S_ 32 1#32))) (broadcastInDim S68x1 ![] bcast_S_S68x1 (constantI S_ 32 1#32))))) (cmpi .eq (broadcastInDim S68x136 ![0, 1] bcast_S1x136_S68x136_0_1 (broadcastInDim S1x136 ![1] bcast_S136_S1x136_1 (iotaInDim S136 32 0))) (broadcastInDim S68x136 ![0, 1] bcast_S68x1_S68x136_0_1 (addi (subi (addi (muli (broadcastInDim S68x1 ![] bcast_S_S68x1 (constantI S_ 32 2#32)) (broadcastInDim S68x1 ![0] bcast_S68_S68x1_0 (iotaInDim S68 32 0))) (broadcastInDim S68x1 ![] bcast_S_S68x1 (constantI S_ 32 1#32))) (broadcastInDim S68x1 ![] bcast_S_S68x1 (constantI S_ 32 1#32))) (broadcastInDim S68x1 ![] bcast_S_S68x1 (constantI S_ 32 1#32)))))) (broadcastInDim S68x136 ![] bcast_S_S68x136 (constant S_ .f32 0x3F000000#32)) (broadcastInDim S68x136 ![] bcast_S_S68x136 (constant S_ .f32 0x00000000#32))

/-- The matrix of the pixel taps. -/
def taps88 : FVec Ideal S88x176 .f32 :=
  select (ori (cmpi .eq (broadcastInDim S88x176 ![0, 1] bcast_S1x176_S88x176_0_1 (broadcastInDim S1x176 ![1] bcast_S176_S1x176_1 (iotaInDim S176 32 0))) (broadcastInDim S88x176 ![0, 1] bcast_S88x1_S88x176_0_1 (subi (addi (muli (broadcastInDim S88x1 ![] bcast_S_S88x1 (constantI S_ 32 2#32)) (broadcastInDim S88x1 ![0] bcast_S88_S88x1_0 (iotaInDim S88 32 0))) (broadcastInDim S88x1 ![] bcast_S_S88x1 (constantI S_ 32 1#32))) (broadcastInDim S88x1 ![] bcast_S_S88x1 (constantI S_ 32 1#32))))) (cmpi .eq (broadcastInDim S88x176 ![0, 1] bcast_S1x176_S88x176_0_1 (broadcastInDim S1x176 ![1] bcast_S176_S1x176_1 (iotaInDim S176 32 0))) (broadcastInDim S88x176 ![0, 1] bcast_S88x1_S88x176_0_1 (addi (subi (addi (muli (broadcastInDim S88x1 ![] bcast_S_S88x1 (constantI S_ 32 2#32)) (broadcastInDim S88x1 ![0] bcast_S88_S88x1_0 (iotaInDim S88 32 0))) (broadcastInDim S88x1 ![] bcast_S_S88x1 (constantI S_ 32 1#32))) (broadcastInDim S88x1 ![] bcast_S_S88x1 (constantI S_ 32 1#32))) (broadcastInDim S88x1 ![] bcast_S_S88x1 (constantI S_ 32 1#32)))))) (broadcastInDim S88x176 ![] bcast_S_S88x176 (constant S_ .f32 0x3F000000#32)) (broadcastInDim S88x176 ![] bcast_S_S88x176 (constant S_ .f32 0x00000000#32))

/-- The down-sampled logits. -/
def down (a0 : Vec Ideal S24x256x128 .bf16) (a1 : Vec Ideal S24x1x128 .f32) (a2 : Vec Ideal S24x136x176x256 .i8)
    (a3 : Vec Ideal S24x136x176 .f32) : FVec Ideal S24x68x88x100 .f32 :=
  transpose S24x68x88x100 [0, 1, 3, 2] (Host.dotGeneral dot_S24x68x176x100_S88x176_S24x68x100x88_2_1_013_0_n_n (some .fp32) (transpose S24x68x176x100 [0, 3, 1, 2] (Host.dotGeneral dot_S24x136x176x100_S68x136_S24x176x100x68_1_1_023_0_n_n (some .fp32) (mask a0 a1 a2 a3) taps68) transposes_S24x176x100x68_S24x68x176x100_0_3_1_2) taps88) transposes_S24x68x100x88_S24x68x88x100_0_1_3_2

/-! ## The tap matrices -/

theorem sum_two {n : ℕ} (f T : Fin n → EReal) (a b : Fin n) (hab : a ≠ b)
    (hT : ∀ k, T k = if k = a ∨ k = b then half else 0) : ∑ k, f k * T k = avg (f a) (f b) := by
  rw [Fintype.sum_eq_add a b hab (fun x hx => by rw [hT, if_neg (by simp [hx.1, hx.2]), mul_zero])]
  rw [hT, hT, if_pos (Or.inl rfl), if_pos (Or.inr rfl), mul_comm (f a), mul_comm (f b)]
  rfl

/-- The word that decides whether column `h` is a tap of row `i`. -/
def tapWord (i h : ℕ) : BitVec 1 :=
  IntOp.ori
    (IntOp.cmpi .eq (BitVec.ofNat 32 h) (IntOp.subi (IntOp.addi (IntOp.muli 2#32 (BitVec.ofNat 32 i)) 1#32) 1#32))
    (IntOp.cmpi .eq (BitVec.ofNat 32 h)
      (IntOp.addi (IntOp.subi (IntOp.addi (IntOp.muli 2#32 (BitVec.ofNat 32 i)) 1#32) 1#32) 1#32))

theorem tapWord_68 : ∀ (i : Fin 68) (h : Fin 136),
    tapWord i.val h.val = if h.val = 2 * i.val ∨ h.val = 2 * i.val + 1 then 1#1 else 0#1 := by
  decide +kernel

theorem tapWord_88 : ∀ (i : Fin 88) (h : Fin 176),
    tapWord i.val h.val = if h.val = 2 * i.val ∨ h.val = 2 * i.val + 1 then 1#1 else 0#1 := by
  decide +kernel

/-- A choice between one half and zero by a tap word. -/
theorem select_tap {p : Prop} [Decidable p] {x : BitVec 1} (hx : x = if p then 1#1 else 0#1) :
    Scalar.select x (Ideal.ofBits .f32 0x3F000000#32) (0 : EReal) = if p then half else 0 := by
  subst hx
  by_cases h : p
  · rw [if_pos h, if_pos h]; rfl
  · rw [if_neg h, if_neg h]; rfl

theorem taps68_apply (i : Fin 68) (h : Fin 136) :
    taps68 (ix2 i h) = if h = ⟨2 * i.val, by omega⟩ ∨ h = ⟨2 * i.val + 1, by omega⟩ then half else 0 := by
  unfold taps68
  pointwise []
  simp only [Fin.ext_iff]
  exact select_tap (tapWord_68 i h)

theorem taps88_apply (i : Fin 88) (h : Fin 176) :
    taps88 (ix2 i h) = if h = ⟨2 * i.val, by omega⟩ ∨ h = ⟨2 * i.val + 1, by omega⟩ then half else 0 := by
  unfold taps88
  pointwise []
  simp only [Fin.ext_iff]
  exact select_tap (tapWord_88 i h)

/-! ## The two results -/

theorem mask_apply (a0 : Vec Ideal S24x256x128 .bf16) (a1 : Vec Ideal S24x1x128 .f32) (a2 : Vec Ideal S24x136x176x256 .i8)
    (a3 : Vec Ideal S24x136x176 .f32) (b : Fin 24) (h : Fin 136) (w : Fin 176) (q : Fin 100) :
    mask a0 a1 a2 a3 (ix4 b h w q) = logitAt a0 a1 a2 a3 b h w q := by
  unfold mask logitAt Cert.KernelIdeal.Mask.logit
  pointwise []
  have hs : ∀ x : BitVec 8, (FloatOps.sitofp (F := Ideal) .f32 (BitVec.signExtend 32 x) : EReal) = ((x.toInt : ℝ) : EReal) :=
    fun x => by
      show (((BitVec.signExtend 32 x).toInt : ℝ) : EReal) = _
      rw [BitVec.toInt_signExtend_of_le (by decide)]
  simp only [hs]

theorem mask_eq (a0 : Vec Ideal S24x256x128 .bf16) (a1 : Vec Ideal S24x1x128 .f32) (a2 : Vec Ideal S24x136x176x256 .i8)
    (a3 : Vec Ideal S24x136x176 .f32) : mask a0 a1 a2 a3 = maskArr a0 a1 a2 a3 := by
  funext i
  idx_vars i
  exact mask_apply ..

theorem down_eq (a0 : Vec Ideal S24x256x128 .bf16) (a1 : Vec Ideal S24x1x128 .f32) (a2 : Vec Ideal S24x136x176x256 .i8)
    (a3 : Vec Ideal S24x136x176 .f32) : down a0 a1 a2 a3 = downArr a0 a1 a2 a3 := by
  funext i
  idx_vars i
  unfold down downArr
  pointwise []
  rw [sum_two _ _ _ _ (by simp) (fun k => taps88_apply i2 k)]
  rw [sum_two _ _ _ _ (by simp) (fun k => taps68_apply i1 k), sum_two _ _ _ _ (by simp) (fun k => taps68_apply i1 k)]
  simp only [mask_apply]

end Cert.ReferenceIdeal.Value
end
-- ==== Proof.lean ====
/-
  The five claims about the mask head: the kernel, its idealization and the reference run and end with every counter at
  zero; the idealization is the kernel; and over the reals the kernel and the reference leave the same two arrays.
  Proof/Kernel and Proof/KernelIdeal hold what one grid point computes, the run and the frame (Rows, Trip, Run); Logits and
  Arrays hold what the kernel's result arrays hold over the reals, RefEq what the reference's hold.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Arrays
public import proofs.«01_k».proof.Proof.Kernel.Run
public import proofs.«01_k».proof.Proof.Gen.ReferenceIdeal
public import proofs.«01_k».proof.Proof.RefEq
public import Idealize.ShloMosaic.Adequacy
public import Idealize.ShloMosaic.Init

@[expose] public section

noncomputable section

namespace Cert.Proof

open Idealize.ShloMosaic Idealize.SL.Sem Cert.Kernel

/-- The reference's run leaves every counter at zero. -/
theorem quiescent_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- Over the reals the kernel and the reference leave the same two arrays. -/
theorem algebraic : Cert.algebraic_KernelIdeal_ReferenceIdeal := by
  intro m g m' g' _ hargs
  refine ⟨_, _, Cert.KernelIdeal.Mask.run_values m g, ?_⟩
  refine (θ_run _ _ _).mono (fun r h c => ?_) (Cert.ReferenceIdeal.Value.run m' g')
  obtain ⟨h0, h1, h2, h3⟩ := hargs c
  refine ⟨(h c).1.trans ?_, (h c).2.1.trans ?_, (h c).2.2⟩
  · rw [h0, h1, h2, h3]
    exact Cert.ReferenceIdeal.Value.mask_eq ..
  · rw [h0, h1, h2, h3]
    exact Cert.ReferenceIdeal.Value.down_eq ..

/-- The five claims. -/
theorem claim : Cert.Claim := ⟨Cert.Kernel.Gen.facts, Cert.KernelIdeal.Gen.facts, Cert.ReferenceIdeal.Gen.facts,
  fun m g _ => Cert.Kernel.Mask.quiescent m g, fun m g _ => Cert.KernelIdeal.Mask.quiescent m g, quiescent_reference,
  trivial, algebraic⟩

end Cert.Proof

end
